-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1024x1024 : Shape := ⟨2, ![1024, 1024]⟩
abbrev S1024x512 : Shape := ⟨2, ![1024, 512]⟩
abbrev S3x1024x512 : Shape := ⟨3, ![3, 1024, 512]⟩
abbrev S3 : Shape := ⟨1, ![3]⟩
abbrev S_ : Shape := ⟨0, ![]⟩
abbrev S1 : Shape := ⟨1, ![1]⟩
abbrev S1x1024x512 : Shape := ⟨3, ![1, 1024, 512]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .f32⟩
  | .local _ .vmem, ⟨0, _⟩ => ⟨S4096x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x512, .bf16⟩
  | .local _ .vmem, ⟨6, _⟩ => ⟨S1024x512, .bf16⟩
  | .local _ .vmem, ⟨7, _⟩ => ⟨S3x1024x512, .bf16⟩
  | .local _ .vmem, ⟨8, _⟩ => ⟨S3x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_13 : BitVec 32 := 0#32
  let v25 : BitVec 1 := Scalar.cmpi .eq arg0 c0_i32_13
  let v26 : BitVec 32 := Scalar.extui v25
  let c0_i32_14 : BitVec 32 := 0#32
  let v27 : BitVec 1 := Scalar.cmpi .ne v26 c0_i32_14
  v27

def k0_dev1 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_267 : BitVec 32 := 1#32
  let v341 : BitVec 32 := Scalar.muli v13 c1_i32_267
  let v342 : BitVec 32 := Scalar.addi c0_i32_268 v341
  v342.toNat
def k0_dev2 (d0 : Dev nD) : Nat :=
  let c0_i32_271 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_270 : BitVec 32 := 1#32
  let v343 : BitVec 32 := Scalar.muli v24 c1_i32_270
  let v344 : BitVec 32 := Scalar.addi c0_i32_271 v343
  v344.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v28 : BitVec 32 := Scalar.subi v2 c1_i32_15
  let c4_i32_16 : BitVec 32 := 4#32
  let c0_i32_17 : BitVec 32 := 0#32
  let v29 : BitVec 1 := Scalar.cmpi .eq c4_i32_16 c0_i32_17
  let c1_i32_18 : BitVec 32 := 1#32
  let v30 : BitVec 32 := Scalar.select v29 c1_i32_18 c4_i32_16
  let v31 : BitVec 32 := Scalar.remsi v28 v30
  let c0_i32_20 : BitVec 32 := 0#32
  let v33 : BitVec 1 := Scalar.cmpi .slt v31 c0_i32_20
  let c0_i32_21 : BitVec 32 := 0#32
  let v34 : BitVec 1 := Scalar.cmpi .slt v30 c0_i32_21
  let v35 : BitVec 1 := Scalar.xori v33 v34
  let c0_i32_19 : BitVec 32 := 0#32
  let v32 : BitVec 1 := Scalar.cmpi .ne v31 c0_i32_19
  let v36 : BitVec 1 := Scalar.andi v35 v32
  let v37 : BitVec 32 := Scalar.addi v31 v30
  let v38 : BitVec 32 := Scalar.select v36 v37 v31
  let c1024_i32 : BitVec 32 := 1024#32
  let v39 : BitVec 32 := Scalar.muli v38 c1024_i32
  let v40 : Index := Scalar.indexCast v39
  let c0 : Index := 0#32
  ![v40.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_26 : BitVec 32 := 1#32
  let v50 : BitVec 32 := Scalar.addi v2 c1_i32_26
  let c4_i32_27 : BitVec 32 := 4#32
  let c0_i32_28 : BitVec 32 := 0#32
  let v51 : BitVec 1 := Scalar.cmpi .eq c4_i32_27 c0_i32_28
  let c1_i32_29 : BitVec 32 := 1#32
  let v52 : BitVec 32 := Scalar.select v51 c1_i32_29 c4_i32_27
  let v53 : BitVec 32 := Scalar.remsi v50 v52
  let c0_i32_31 : BitVec 32 := 0#32
  let v55 : BitVec 1 := Scalar.cmpi .slt v53 c0_i32_31
  let c0_i32_32 : BitVec 32 := 0#32
  let v56 : BitVec 1 := Scalar.cmpi .slt v52 c0_i32_32
  let v57 : BitVec 1 := Scalar.xori v55 v56
  let c0_i32_30 : BitVec 32 := 0#32
  let v54 : BitVec 1 := Scalar.cmpi .ne v53 c0_i32_30
  let v58 : BitVec 1 := Scalar.andi v57 v54
  let v59 : BitVec 32 := Scalar.addi v53 v52
  let v60 : BitVec 32 := Scalar.select v58 v59 v53
  let c1024_i32_33 : BitVec 32 := 1024#32
  let v61 : BitVec 32 := Scalar.muli v60 c1024_i32_33
  let v62 : Index := Scalar.indexCast v61
  let c0_34 : Index := 0#32
  ![v62.toNat, 0]
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_42 : BitVec 32 := 1#32
  let v72 : BitVec 32 := Scalar.muli v24 c1_i32_42
  let v73 : BitVec 32 := Scalar.addi c0_i32_43 v72
  v73.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_49 : BitVec 32 := 1#32
  let v80 : BitVec 32 := Scalar.muli v13 c1_i32_49
  let v81 : BitVec 32 := Scalar.addi c0_i32_50 v80
  v81.toNat
def k0_off3 (d0 : Dev nD) (c0_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v88 : BitVec 32 := Scalar.subi v2 c2_i32
  let v89 : BitVec 32 := Scalar.subi v88 c0_i32_53
  let c4_i32_54 : BitVec 32 := 4#32
  let c0_i32_55 : BitVec 32 := 0#32
  let v90 : BitVec 1 := Scalar.cmpi .eq c4_i32_54 c0_i32_55
  let c1_i32_56 : BitVec 32 := 1#32
  let v91 : BitVec 32 := Scalar.select v90 c1_i32_56 c4_i32_54
  let v92 : BitVec 32 := Scalar.remsi v89 v91
  let c0_i32_58 : BitVec 32 := 0#32
  let v94 : BitVec 1 := Scalar.cmpi .slt v92 c0_i32_58
  let c0_i32_59 : BitVec 32 := 0#32
  let v95 : BitVec 1 := Scalar.cmpi .slt v91 c0_i32_59
  let v96 : BitVec 1 := Scalar.xori v94 v95
  let c0_i32_57 : BitVec 32 := 0#32
  let v93 : BitVec 1 := Scalar.cmpi .ne v92 c0_i32_57
  let v97 : BitVec 1 := Scalar.andi v96 v93
  let v98 : BitVec 32 := Scalar.addi v92 v91
  let v99 : BitVec 32 := Scalar.select v97 v98 v92
  let c1024_i32_60 : BitVec 32 := 1024#32
  let v100 : BitVec 32 := Scalar.muli v99 c1024_i32_60
  let v101 : Index := Scalar.indexCast v100
  let c0_61 : Index := 0#32
  ![v101.toNat, 0]
def k0_off4 (d0 : Dev nD) (c0_i32_66 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v107 : BitVec 32 := Scalar.addi v2 c2_i32_65
  let v108 : BitVec 32 := Scalar.addi v107 c0_i32_66
  let c4_i32_67 : BitVec 32 := 4#32
  let c0_i32_68 : BitVec 32 := 0#32
  let v109 : BitVec 1 := Scalar.cmpi .eq c4_i32_67 c0_i32_68
  let c1_i32_69 : BitVec 32 := 1#32
  let v110 : BitVec 32 := Scalar.select v109 c1_i32_69 c4_i32_67
  let v111 : BitVec 32 := Scalar.remsi v108 v110
  let c0_i32_71 : BitVec 32 := 0#32
  let v113 : BitVec 1 := Scalar.cmpi .slt v111 c0_i32_71
  let c0_i32_72 : BitVec 32 := 0#32
  let v114 : BitVec 1 := Scalar.cmpi .slt v110 c0_i32_72
  let v115 : BitVec 1 := Scalar.xori v113 v114
  let c0_i32_70 : BitVec 32 := 0#32
  let v112 : BitVec 1 := Scalar.cmpi .ne v111 c0_i32_70
  let v116 : BitVec 1 := Scalar.andi v115 v112
  let v117 : BitVec 32 := Scalar.addi v111 v110
  let v118 : BitVec 32 := Scalar.select v116 v117 v111
  let c1024_i32_73 : BitVec 32 := 1024#32
  let v119 : BitVec 32 := Scalar.muli v118 c1024_i32_73
  let v120 : Index := Scalar.indexCast v119
  let c0_74 : Index := 0#32
  ![v120.toNat, 0]
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_117 : BitVec 32 := 1#32
  let v162 : BitVec 32 := Scalar.muli v24 c1_i32_117
  let v163 : BitVec 32 := Scalar.addi c0_i32_118 v162
  v163.toNat
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_124 : BitVec 32 := 1#32
  let v170 : BitVec 32 := Scalar.muli v13 c1_i32_124
  let v171 : BitVec 32 := Scalar.addi c0_i32_125 v170
  v171.toNat
def k0_dev7 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_192 : BitVec 32 := 1#32
  let v252 : BitVec 32 := Scalar.muli v24 c1_i32_192
  let v253 : BitVec 32 := Scalar.addi c0_i32_193 v252
  v253.toNat
def k0_dev8 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_199 : BitVec 32 := 1#32
  let v260 : BitVec 32 := Scalar.muli v13 c1_i32_199
  let v261 : BitVec 32 := Scalar.addi c0_i32_200 v260
  v261.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdeal.Ring.lean ====
/-
# The ring, its buffers and semaphores, and what each block computes

Four devices in a ring, two directions: `true` travels to the next device, `false` to the one before. In each of the
eight grid points a device sends three partial sums each way (hops 0, 1, 2). This module names the neighbours, the
buffers and semaphores of a direction and hop, and the contents every hop carries.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Tactic

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The neighbours -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

/-- The device that direction `d` sends to. -/
def nb (d : Bool) (c : Dev nD) : Dev nD := if d then nxt c else prv c

theorem nb_not (d : Bool) (c : Dev nD) : nb (!d) (nb d c) = c := by revert d c; decide
theorem nb_nb_not (d : Bool) (c : Dev nD) : nb d (nb (!d) c) = c := by revert d c; decide

def turn (d : Bool) : Dev nD ≃ Dev nD := ⟨nb d, nb (!d), nb_not d, nb_nb_not d⟩

set_option backward.proofsInPublic true in
/-- The chunk of rows of stage `s` (`0` the sum's first term, `h + 1` the one added at hop `h`). -/
def ck (d : Bool) (s : Fin 4) (c : Dev nD) : Fin 4 :=
  if d then ⟨(c.val + 3 + 4 - s.val) % 4, Nat.mod_lt _ (by decide)⟩ else ⟨(c.val + 1 + s.val) % 4, Nat.mod_lt _ (by decide)⟩

theorem dev1_eq (i : grid0.Coords) (c : Dev nD) (h : k0_cond1 i = 1#1) : (⟨k0_dev1 c, k0_dev1_lt i c h⟩ : Dev nD) = nb false c :=
  Fin.ext (show k0_dev1 c = (nb false c).val by revert c; decide)
theorem dev2_eq (i : grid0.Coords) (c : Dev nD) (h : k0_cond1 i = 1#1) : (⟨k0_dev2 c, k0_dev2_lt i c h⟩ : Dev nD) = nb true c :=
  Fin.ext (show k0_dev2 c = (nb true c).val by revert c; decide)
theorem dev3_eq (c : Dev nD) : (⟨k0_dev3 c, k0_dev3_lt c⟩ : Dev nD) = nb true c := Fin.ext (show k0_dev3 c = (nb true c).val by revert c; decide)
theorem dev4_eq (c : Dev nD) : (⟨k0_dev4 c, k0_dev4_lt c⟩ : Dev nD) = nb false c := Fin.ext (show k0_dev4 c = (nb false c).val by revert c; decide)
theorem dev5_eq (c : Dev nD) : (⟨k0_dev5 c, k0_dev5_lt c⟩ : Dev nD) = nb true c := Fin.ext (show k0_dev5 c = (nb true c).val by revert c; decide)
theorem dev6_eq (c : Dev nD) : (⟨k0_dev6 c, k0_dev6_lt c⟩ : Dev nD) = nb false c := Fin.ext (show k0_dev6 c = (nb false c).val by revert c; decide)
theorem dev7_eq (c : Dev nD) : (⟨k0_dev7 c, k0_dev7_lt c⟩ : Dev nD) = nb true c := Fin.ext (show k0_dev7 c = (nb true c).val by revert c; decide)
theorem dev8_eq (c : Dev nD) : (⟨k0_dev8 c, k0_dev8_lt c⟩ : Dev nD) = nb false c := Fin.ext (show k0_dev8 c = (nb false c).val by revert c; decide)

/-- The offset of row chunk `k`. -/
def coff (k : Fin 4) : Fin 2 → Nat := ![1024 * k.val, 0]
theorem coff_inb (k : Fin 4) : ∀ a, coff k a + S1024x1024.size a ≤ S4096x1024.size a := by revert k; decide

theorem off1_eq (c : Dev nD) : k0_off1 c = coff (ck true 0 c) := by revert c; decide
theorem off2_eq (c : Dev nD) : k0_off2 c = coff (ck false 0 c) := by revert c; decide
theorem off3_eq (c : Dev nD) (h : Fin 3) : k0_off3 c (BitVec.ofNat 32 h.val) = coff (ck true h.succ c) := by revert c h; decide
theorem off4_eq (c : Dev nD) (h : Fin 3) : k0_off4 c (BitVec.ofNat 32 h.val) = coff (ck false h.succ c) := by revert c h; decide

/-! ## Buffers and semaphores -/

abbrev sendM (d : Bool) : Memref sig .tc .vmem S1024x512 .bf16 :=
  match d with | true => Memref.whole cc0_scratch0 | false => Memref.whole cc0_scratch1
abbrev recvM (d : Bool) : Memref sig .tc .vmem S3x1024x512 .bf16 :=
  match d with | true => Memref.whole cc0_scratch2 | false => Memref.whole cc0_scratch3

theorem slot_inb (h : Fin 3) : ∀ a, (![h.val, 0, 0] : Fin 3 → Nat) a + S1x1024x512.size a ≤ S3x1024x512.size a := by revert h; decide
abbrev slotR (h : Fin 3) : Rect S3x1024x512 := Rect.unit (s := S3x1024x512) ![h.val, 0, 0] S1x1024x512.size (slot_inb h)
/-- Slot `h` of direction `d`'s receive buffer. -/
abbrev slotM (d : Bool) (h : Fin 3) : Memref sig .tc .vmem S1024x512 .bf16 :=
  ((recvM d).slice (slotR h) (fun _ => rfl)).squeeze S1024x512 squeezes_S1x1024x512_S1024x512

abbrev barS : Sem sig := (SemArray.scalar (sig.barrier 0 rfl) : Sems sig S_).sem
/-- The twelve scratch DMA semaphores. -/
abbrev os (k : Fin 12) : DmaSem sig := ⟨5 + k.val, by have := k.isLt; show _ < 17; omega⟩
set_option backward.proofsInPublic true in
def sIx (d : Bool) (h : Fin 3) : Fin 12 := ⟨3 * (if d then 0 else 1) + h.val, by have := h.isLt; split <;> omega⟩
set_option backward.proofsInPublic true in
def rIx (d : Bool) (h : Fin 3) : Fin 12 := ⟨6 + 3 * (if d then 0 else 1) + h.val, by have := h.isLt; split <;> omega⟩
abbrev sS (d : Bool) (h : Fin 3) : DmaSem sig := os (sIx d h)
abbrev rS (d : Bool) (h : Fin 3) : DmaSem sig := os (rIx d h)

abbrev barCell (c : Dev nD) : GSem nD τ sig := ((c : Thread nD τ), .reg barS)
abbrev sCell (d : Bool) (h : Fin 3) (c : Dev nD) : GSem nD τ sig := ((c : Thread nD τ), .dma (sS d h))
abbrev rCell (d : Bool) (h : Fin 3) (c : Dev nD) : GSem nD τ sig := ((c : Thread nD τ), .dma (rS d h))

/-- The credit of one copy. -/
abbrev N : ℕ := (sendM true).view.dmaCredit
theorem N_pos : 0 < N := View.dmaCredit_pos _ (by decide)
theorem N_slot (d : Bool) (h : Fin 3) (s : SemLoc sig) (hs : ∃ q, s = .dma q) : (slotM d h).view.amount s = N := by
  obtain ⟨q, rfl⟩ := hs; cases d <;> rfl

/-! ## What each hop carries -/

/-- The column half of direction `d`. -/
abbrev half (d : Bool) (W : S1024x1024.Idx → Elt F .f32) : S1024x512.Idx → Elt F .f32 :=
  match d with
  | true => View.ld (Val := Elt F) (e' := .f32) W (Rect.unit (s := S1024x1024) ![0, 0] S1024x512.size inb_S1024x1024_S1024x512_0_0)
  | false => View.ld (Val := Elt F) (e' := .f32) W (Rect.unit (s := S1024x1024) ![0, 512] S1024x512.size inb_S1024x1024_S1024x512_0_512)
/-- Row chunk `k`. -/
abbrev chunk (X : S4096x1024.Idx → Elt F .f32) (k : Fin 4) : S1024x1024.Idx → Elt F .f32 :=
  View.ld (Val := Elt F) (e' := .f32) X (Rect.unit (s := S4096x1024) (coff k) S1024x1024.size (coff_inb k))

/-- A partial product. -/
def mm (x : Vec F S1024x1024 .f32) (w : Vec F S1024x512 .f32) : FVec F S1024x512 .f32 := k0_pay6 x w
/-- A sum narrowed for sending. -/
def enc (p : FVec F S1024x512 .f32) : FVec F S1024x512 .bf16 :=
  shapeCast S1024x512 (truncf .bf16 p bitsLt_bf16_f32) shapeCasts_S1024x512_S1024x512
/-- A received sum widened, plus a partial product. -/
def addTo (r : Vec F S1024x512 .bf16) (p : FVec F S1024x512 .f32) : FVec F S1024x512 .f32 := addf (extf .f32 r bitsLt_bf16_f32) p
/-- The last addition, clamped below at zero. -/
def fin' (r : Vec F S1024x512 .bf16) (p : FVec F S1024x512 .f32) : FVec F S1024x512 .f32 :=
  maximumf (addTo r p) (broadcast S1024x512 (Scalar.ofBits .f32 0x00000000#32))

section Acc
variable (xs : Dev nD → S4096x1024.Idx → Elt F .f32) (ws : Dev nD → S1024x1024.Idx → Elt F .f32)

/-- Device `c`'s own product at stage `s`. -/
def part (d : Bool) (s : Fin 4) (c : Dev nD) : FVec F S1024x512 .f32 := mm (chunk (xs c) (ck d s c)) (half d (ws c))

/-- What device `c` sends in direction `d` at hop `h`. -/
def acc (d : Bool) : ℕ → Dev nD → FVec F S1024x512 .bf16
  | 0, c => enc (part xs ws d 0 c)
  | h + 1, c => enc (addTo (acc d h (nb (!d) c)) (part xs ws d (Fin.ofNat 4 (h + 1)) c))

/-- The column half of the result that direction `d` leaves on device `c`. -/
def res (d : Bool) (c : Dev nD) : FVec F S1024x512 .f32 := fin' (acc xs ws d 2 (nb (!d) c)) (part xs ws d 3 c)

end Acc

/-! ## The printed payloads in those words -/

theorem pay3_eq (x w) : (k0_pay3 x w : FVec F S1024x512 .bf16) = enc (mm x w) := rfl
theorem pay5_eq (x w) : (k0_pay5 (k0_pay4 x w) : FVec F S1024x512 .bf16) = enc (mm x w) := rfl
theorem pay7_eq (x w) : (k0_pay7 x w : FVec F S1024x512 .f32) = mm x w := rfl
theorem pay6_eq (x w) : (k0_pay6 x w : FVec F S1024x512 .f32) = mm x w := rfl
theorem pay12_eq (x w) : (k0_pay12 (k0_pay10 x) (k0_pay11 w) (constant S1024x512 .f32 0x00000000#32) : FVec F S1024x512 .f32) = mm x w := rfl
theorem pay13_eq (x w) : (k0_pay13 x w : FVec F S1024x512 .f32) = mm x w := rfl
theorem pay16_eq (x w) : (k0_pay16 x w : FVec F S1024x512 .f32) = mm x w := rfl
theorem pay17_eq (x w) : (k0_pay17 x w : FVec F S1024x512 .f32) = mm x w := rfl
/-- A slot as loaded, its leading axis dropped. -/
abbrev dropLead (r : Vec F S1x1024x512 .bf16) : Vec F S1024x512 .bf16 := shapeCast S1024x512 r shapeCasts_S1x1024x512_S1024x512
theorem pay8_eq (p r) : (k0_pay8 p r : FVec F S1024x512 .bf16) = enc (addTo (dropLead r) p) := rfl
theorem pay9_eq (p r) : (k0_pay9 p r : FVec F S1024x512 .bf16) = enc (addTo (dropLead r) p) := rfl
theorem pay14_eq (p r) : (k0_pay14 p r : FVec F S1024x512 .bf16) = enc (addTo (dropLead r) p) := rfl
theorem pay15_eq (p r) : (k0_pay15 p r : FVec F S1024x512 .bf16) = enc (addTo (dropLead r) p) := rfl
theorem pay1_eq (p r) : (k0_pay1 p r : FVec F S1024x512 .f32) = fin' (dropLead r) p := rfl
theorem pay2_eq (p r) : (k0_pay2 p r : FVec F S1024x512 .f32) = fin' (dropLead r) p := rfl

/-- Loading slot `h` of a receive buffer and dropping the leading axis is reading the slot. -/
theorem dropLead_slot (d : Bool) (h : Fin 3) (f : (recvM d).view.ty.Contents (Elt F)) :
    dropLead ((recvM d).view.readAt (Elt F) (slotR h).toLoadRect f) = (slotM d h).view.read (Elt F) f := rfl

end Cert.KernelIdeal.Rs

end
-- ==== Proof.KernelIdeal.Sched.lean ====
/-
# The schedule: who waits, who pays, and what each landing hands over

Per direction `d` and hop `h` a device has a send semaphore and a receive semaphore; grid point `r` is round `r` of each.
The entry handshake uses the barrier semaphore, one unit from each neighbour.

A receive landing hands over the slot with the sender's partial sum in it, and with it the sender's slot that the
receiver writes next on its own way back: that slot was emptied by the sender one hop earlier.
-/
module

public import proofs.«01_k».proof.Proof.KernelIdeal.Ring

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The operands as the kernel reads them -/

/-- Grid point `r`. -/
def pt (r : ℕ) : Fin cfg0.N := ⟨r % 8, by show _ < grid0.N; rw [N_0]; exact Nat.mod_lt _ (by decide)⟩
theorem pt_val (t : Fin cfg0.N) : pt t.val = t := Fin.ext (Nat.mod_eq_of_lt (by have h := t.isLt; have : cfg0.N = 8 := N_0; omega))

/-- Device `c`'s rows-by-columns block of `x`. -/
def xblk (c : Dev nD) : S4096x1024.Idx → Elt F .f32 := ((cfg0.win (0 : Fin 3)).blk (pt 0)).view.read (Elt F) (m ((c : Thread nD τ).loc main_arg0))
/-- Device `c`'s block of `w` at grid point `r`. -/
def wblk (r : ℕ) (c : Dev nD) : S1024x1024.Idx → Elt F .f32 := ((cfg0.win (1 : Fin 3)).blk (pt r)).view.read (Elt F) (m ((c : Thread nD τ).loc main_arg1))

/-- What device `c` sends in direction `d` at hop `h` of grid point `r`. -/
abbrev A (r : ℕ) (d : Bool) (h : ℕ) (c : Dev nD) : Vec F S1024x512 .bf16 := acc (xblk m) (wblk m r) d h c

/-! ## Ownership -/

/-- Device `c` owns `b` and reads `X` through it. -/
def own {s : Shape} {e : EltTy} (c : Dev nD) (b : Memref sig .tc .vmem s e) (X : s.Idx → Elt F e) : sProp 𝕄 := owns (c : Thread nD τ) b fullShare X
/-- Device `c` owns `b`, whatever it holds. -/
def ownAny {s : Shape} {e : EltTy} (c : Dev nD) (b : Memref sig .tc .vmem s e) : sProp 𝕄 := iprop(∃ X, own (F := F) c b X)

omit [FloatOps F] in
instance own_storable {s : Shape} {e : EltTy} (c : Dev nD) (b : Memref sig .tc .vmem s e) (X : s.Idx → Elt F e) : BI.Storable (upEmb : UEmb _ 𝕄) (own c b X) := by
  unfold own; infer_instance
omit [FloatOps F] in
instance ownAny_storable {s : Shape} {e : EltTy} (c : Dev nD) (b : Memref sig .tc .vmem s e) : BI.Storable (upEmb : UEmb _ 𝕄) (ownAny (F := F) c b) := by
  unfold ownAny; infer_instance

/-- Slot `(d, h)` of device `p`, handed to its writer for round `s`. -/
def give (p : Dev nD) (d : Bool) (h : Fin 3) (s : ℕ) : sProp 𝕄 := iprop(ownAny p (slotM d h) ∗ reached ER (rCell d h p) s)
/-- The same while a round `s` is to come. -/
def carry (p : Dev nD) (d : Bool) (h : Fin 3) (s : ℕ) : sProp 𝕄 := if s < 8 then give p d h s else iprop(emp)
/-- What the slot's owner keeps of it. -/
def left (p : Dev nD) (d : Bool) (h : Fin 3) (s : ℕ) : sProp 𝕄 := if s < 8 then iprop(emp) else ownAny p (slotM d h)

omit [FloatOps F] in
instance give_storable (p : Dev nD) (d : Bool) (h : Fin 3) (s : ℕ) : BI.Storable (upEmb : UEmb _ 𝕄) (give (F := F) p d h s) := by unfold give; infer_instance
omit [FloatOps F] in
instance carry_storable (p : Dev nD) (d : Bool) (h : Fin 3) (s : ℕ) : BI.Storable (upEmb : UEmb _ 𝕄) (carry (F := F) p d h s) := by
  unfold carry; split <;> infer_instance

/-- The slot handed back at hop `h` (that of hop `h + 2` in the other direction), and the round it is for. -/
abbrev hb (h : Fin 3) : Fin 3 := h + 2
abbrev rb (h : Fin 3) (r : ℕ) : ℕ := if h = 0 then r else r + 1

/-! ## The schedule -/

/-- A send completing hands its source back. -/
def sendPay (d : Bool) (h : Fin 3) (r : ℕ) (c : Dev nD) : sProp 𝕄 := own c (sendM d) (A m r d h.val c)
/-- A landing hands the slot over, with the sender's sum, and the sender's own slot that comes free. -/
def recvPay (d : Bool) (h : Fin 3) (r : ℕ) (c : Dev nD) : sProp 𝕄 :=
  iprop(own c (slotM d h) (A m r d h.val (nb (!d) c)) ∗ carry (nb (!d) c) (!d) (hb h) (rb h r))
/-- The neighbour's barrier unit hands over its first two slots. -/
def barPay (d : Bool) (c : Dev nD) : sProp 𝕄 := iprop(give (nb d c) d 0 0 ∗ give (nb d c) d 1 0)

omit [FloatOps F] in
instance barPay_storable (d : Bool) (c : Dev nD) : BI.Storable (upEmb : UEmb _ 𝕄) (barPay (F := F) d c) := by unfold barPay; infer_instance
instance sendPay_storable (d h r) (c : Dev nD) : BI.Storable (upEmb : UEmb _ 𝕄) (sendPay (F := F) m d h r c) := by unfold sendPay; infer_instance
instance recvPay_storable (d h r) (c : Dev nD) : BI.Storable (upEmb : UEmb _ 𝕄) (recvPay (F := F) m d h r c) := by unfold recvPay; infer_instance

def dirOf (q : ℕ) : Bool := decide ((q + 1) % 6 < 3)
set_option backward.proofsInPublic true in
def hopOf (q : ℕ) : Fin 3 := ⟨(q + 1) % 3, Nat.mod_lt _ (by decide)⟩

def rsDuties (g : GSem nD τ sig) (r : ℕ) : Finset Bool :=
  if g.1.2 = .tc then
    match g.2 with
    | .reg s => if s = barS ∧ r = 0 then Finset.univ else ∅
    | .dma q => if 5 ≤ q.val ∧ r < 8 then {false} else ∅
  else ∅
def rsAmount (g : GSem nD τ sig) : ℕ := match g.2 with | .reg _ => 1 | .dma _ => N
def rsPayload (g : GSem nD τ sig) (r : ℕ) (d : Bool) : sProp 𝕄 :=
  match g.2 with
  | .reg _ => barPay d g.1.1
  | .dma q => if 11 ≤ q.val then recvPay m (dirOf q.val) (hopOf q.val) r g.1.1 else sendPay m (dirOf q.val) (hopOf q.val) r g.1.1

def rs : Rounds.Schedule (GSem nD τ sig) Bool 𝕄 where
  duties := rsDuties
  unitless _ := False
  amount g _ _ := rsAmount g
  payload := rsPayload m
  amount_pos g _ _ _ := by
    show 0 < rsAmount g
    unfold rsAmount; split
    · exact Nat.one_pos
    · exact N_pos

instance rs_payload_storable (g : GSem nD τ sig) (r : ℕ) (d : Bool) : BI.Storable (upEmb : UEmb _ 𝕄) ((rs (F := F) m).payload g r d) := by
  show BI.Storable upEmb (rsPayload m g r d)
  unfold rsPayload
  (repeat' split) <;> infer_instance

section Sched
variable (c : Dev nD) (d : Bool) (h : Fin 3) (r : ℕ)

theorem dirOf_s : dirOf (sS d h).val = d := by revert d h; decide
theorem dirOf_r : dirOf (rS d h).val = d := by revert d h; decide
theorem hopOf_s : hopOf (sS d h).val = h := by revert d h; decide
theorem hopOf_r : hopOf (rS d h).val = h := by revert d h; decide
theorem r_ge : 11 ≤ (rS d h).val := by revert d h; decide
theorem s_not_ge : ¬ 11 ≤ (sS d h).val := by revert d h; decide

theorem duties_bar : (rs (F := F) m).duties (barCell c) 0 = Finset.univ := rfl
theorem duties_bar_later : ∀ r, 1 ≤ r → (rs (F := F) m).duties (barCell c) r = ∅ := fun r hr => by
  dsimp only [rs]
  unfold rsDuties; rw [if_pos rfl]; exact if_neg fun h => by omega
theorem duties_os (k : Fin 12) (hr : r < 8) : (rs (F := F) m).duties ((c : Thread nD τ), .dma (os k)) r = {false} := by
  dsimp only [rs]
  unfold rsDuties; rw [if_pos rfl]; exact if_pos ⟨Nat.le_add_right 5 _, hr⟩
theorem duties_os_later (k : Fin 12) : ∀ r, 8 ≤ r → (rs (F := F) m).duties ((c : Thread nD τ), .dma (os k)) r = ∅ := fun r hr => by
  dsimp only [rs]
  unfold rsDuties; rw [if_pos rfl]; exact if_neg fun h => by omega

theorem amount_bar (e : Bool) : (rs (F := F) m).amount (barCell c) r e = 1 := rfl
theorem amount_os (k : Fin 12) (e : Bool) : (rs (F := F) m).amount ((c : Thread nD τ), .dma (os k)) r e = N := rfl

theorem expect_bar : (rs (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_os (k : Fin 12) (hr : r < 8) : (rs (F := F) m).expect ((c : Thread nD τ), .dma (os k)) r = N := by
  unfold Schedule.expect Schedule.amountOf; rw [duties_os m c r k hr, Finset.sum_singleton, amount_os]

theorem payload_bar (e : Bool) : (rs (F := F) m).payload (barCell c) r e = barPay e c := rfl
theorem payload_s (e : Bool) : (rs (F := F) m).payload (sCell d h c) r e = sendPay m d h r c := by
  dsimp only [rs]
  unfold rsPayload
  show (if 11 ≤ (sS d h).val then _ else _) = _
  rw [if_neg (s_not_ge d h), dirOf_s, hopOf_s]
theorem payload_r (e : Bool) : (rs (F := F) m).payload (rCell d h c) r e = recvPay m d h r c := by
  dsimp only [rs]
  unfold rsPayload
  show (if 11 ≤ (rS d h).val then _ else _) = _
  rw [if_pos (r_ge d h), dirOf_r, hopOf_r]

theorem rest_bar : bigSep ((rs (F := F) m).duties (barCell c) 0 \ ∅) (fun e => (rs (F := F) m).payload (barCell c) 0 e) = iprop(barPay true c ∗ barPay false c) := by
  rw [Finset.sdiff_empty, duties_bar, bigSep_univ_eq_bigSepL [true, false] (by decide) (by decide), bigSepL_cons_cons, bigSepL_singleton]
  rfl
theorem rest_s (hr : r < 8) : bigSep ((rs (F := F) m).duties (sCell d h c) r \ ∅) (fun e => (rs (F := F) m).payload (sCell d h c) r e) = sendPay m d h r c := by
  rw [Finset.sdiff_empty, duties_os m c r _ hr, bigSep_singleton, payload_s]
theorem rest_r (hr : r < 8) : bigSep ((rs (F := F) m).duties (rCell d h c) r \ ∅) (fun e => (rs (F := F) m).payload (rCell d h c) r e) = recvPay m d h r c := by
  rw [Finset.sdiff_empty, duties_os m c r _ hr, bigSep_singleton, payload_r]

end Sched

/-! ## What a device owes, in the order it pays; the levels -/

/-- The `j`-th copy a device starts: its grid point, hop and direction. -/
abbrev rOf (j : ℕ) : ℕ := j / 6
set_option backward.proofsInPublic true in
def hOf (j : ℕ) : Fin 3 := ⟨j % 6 / 2, by omega⟩
def dOf (j : ℕ) : Bool := decide (j % 2 = 0)
abbrev jOf (r : ℕ) (h : Fin 3) (d : Bool) : ℕ := 6 * r + 2 * h.val + (if d then 0 else 1)

theorem rOf_jOf (r h d) : rOf (jOf r h d) = r := by unfold rOf jOf; have := h.isLt; split <;> omega
theorem hOf_jOf (r h d) : hOf (jOf r h d) = h := Fin.ext (by show jOf r h d % 6 / 2 = _; unfold jOf; have := h.isLt; split <;> omega)
theorem dOf_jOf (r h d) : dOf (jOf r h d) = d := by unfold dOf jOf; cases d <;> simp <;> omega

/-- The credit the `j`-th copy pays. -/
def owe1 (c : Dev nD) (j : ℕ) : CellTallies nD τ sig ℕ := tallyAt (rCell (dOf j) (hOf j) (nb (dOf j) c)) (rOf j) N
/-- What is owed from the `j`-th copy on. -/
def owed (c : Dev nD) (j : ℕ) : CellTallies nD τ sig ℕ := ∑ i ∈ Finset.Ico j 48, owe1 c i

theorem Ico_step {a b : ℕ} (h : a < b) : Finset.Ico a b = insert a (Finset.Ico (a + 1) b) := by
  ext i; simp only [Finset.mem_Ico, Finset.mem_insert]; omega
theorem owed_step (c : Dev nD) {j : ℕ} (hj : j < 48) : owed c j = owed c (j + 1) + owe1 c j := by
  unfold owed; rw [Ico_step hj, Finset.sum_insert (by simp), add_comm]
theorem owed_end (c : Dev nD) : owed c 48 = 0 := by unfold owed; rw [Finset.Ico_self, Finset.sum_empty]
theorem owed_send (c : Dev nD) (r h d) (hr : r < 8) : owed c (jOf r h d) = owed c (jOf r h d + 1) + tallyAt (rCell d h (nb d c)) r N := by
  rw [owed_step c (by unfold jOf; have := h.isLt; split <;> omega)]; unfold owe1; rw [rOf_jOf, hOf_jOf, dOf_jOf]

/-- At launch: every copy, and one unit to each neighbour's barrier. -/
def O₁ (c : Dev nD) : CellTallies nD τ sig ℕ := owed c 0 + tallyAt (barCell (nb true c)) 0 1
def O₀ (c : Dev nD) : CellTallies nD τ sig ℕ := O₁ c + tallyAt (barCell (nb false c)) 0 1

def L (g : GSem nD τ sig) : Finset ℕ := if g.1.2 = .tc then Finset.range 8 else ∅
/-- Staging and send semaphores lowest, the barrier next, then the receive semaphores in the order they are waited on. -/
def lv (g : GSem nD τ sig) (r : ℕ) : ℕ :=
  match g.2 with | .reg _ => 1 | .dma q => if 11 ≤ q.val then 2 + 3 * r + (hopOf q.val).val else 0

theorem L_of_ne (g : GSem nD τ sig) (h : g.1.2 ≠ .tc) : L g = ∅ := if_neg h
theorem L_tc (c : Dev nD) (sm : SemLoc sig) : L ((c : Thread nD τ), sm) = Finset.range 8 := if_pos rfl
theorem lv_r (d h r) (c : Dev nD) : lv (rCell d h c) r = 2 + 3 * r + h.val := by
  unfold lv; show (if 11 ≤ (rS d h).val then _ else _) = _; rw [if_pos (r_ge d h), hopOf_r]
theorem lv_s (d h r) (c : Dev nD) : lv (sCell d h c) r = 0 := by
  unfold lv; show (if 11 ≤ (sS d h).val then _ else _) = _; rw [if_neg (s_not_ge d h)]
theorem lv_bar (r) (c : Dev nD) : lv (barCell c) r = 1 := rfl

theorem owed_pos {c : Dev nD} {j : ℕ} {g : GSem nD τ sig} {u : ℕ} (h : 0 < owed c j g u) :
    ∃ i, j ≤ i ∧ i < 48 ∧ g = rCell (dOf i) (hOf i) (nb (dOf i) c) ∧ u = rOf i := by
  unfold owed at h
  obtain ⟨i, hi, h⟩ := Pipeline.sum_pos_exists h
  obtain ⟨h1, h2⟩ := Pipeline.tallyAt_pos h
  exact ⟨i, (Finset.mem_Ico.mp hi).1, (Finset.mem_Ico.mp hi).2, h1, h2⟩

theorem owed_lv {c : Dev nD} {j : ℕ} {g : GSem nD τ sig} {u : ℕ} (h : 0 < owed c j g u) : u ∈ L g ∧ 2 + j / 2 ≤ lv g u := by
  obtain ⟨i, h1, h2, rfl, rfl⟩ := owed_pos h
  refine ⟨by rw [L_tc]; exact Finset.mem_range.mpr (by unfold rOf; omega), ?_⟩
  rw [lv_r]; show _ ≤ 2 + 3 * (i / 6) + i % 6 / 2; omega

theorem O₀_lv {c : Dev nD} {g : GSem nD τ sig} {u : ℕ} (h : 0 < O₀ c g u) : u ∈ L g ∧ 1 ≤ lv g u := by
  unfold O₀ O₁ at h
  rcases Pipeline.add_pos_cases h with h | h
  · rcases Pipeline.add_pos_cases h with h | h
    · exact ⟨(owed_lv h).1, by have := (owed_lv h).2; omega⟩
    · obtain ⟨rfl, rfl⟩ := Pipeline.tallyAt_pos h
      exact ⟨by rw [L_tc]; decide, le_refl _⟩
  · obtain ⟨rfl, rfl⟩ := Pipeline.tallyAt_pos h
    exact ⟨by rw [L_tc]; decide, le_refl _⟩

omit [FloatOps F] in
theorem mayWait_stage (c : Dev nD) (q : DmaSem sig) (hq : q.val < 11) (O : CellTallies nD τ sig ℕ) (hO : O = O₀ c ∨ ∃ j, O = owed c j) :
    (levAts L lv : sProp 𝕄) ⊢ MayWait (c : Thread nD τ) (.dma q) 0 O := by
  have h0 : lv ((c : Thread nD τ), .dma q) 0 = 0 := if_neg (Nat.not_le.mpr hq)
  refine Pipeline.mayWait_of_levAts (by rw [L_tc]; decide) fun g i hg => ?_
  rw [h0]
  rcases hO with rfl | ⟨j, rfl⟩
  · exact ⟨(O₀_lv hg).1, (O₀_lv hg).2⟩
  · exact ⟨(owed_lv hg).1, by have := (owed_lv hg).2; omega⟩

omit [FloatOps F] in
theorem mayWait_bar (c : Dev nD) (j : ℕ) : (levAts L lv : sProp 𝕄) ⊢ MayWait (c : Thread nD τ) (.reg barS) 0 (owed c j) :=
  Pipeline.mayWait_of_levAts (by rw [L_tc]; decide) fun g i hg => ⟨(owed_lv hg).1, by have := (owed_lv hg).2; rw [lv_bar]; omega⟩

omit [FloatOps F] in
theorem mayWait_s (c : Dev nD) (d h j) : (levAts L lv : sProp 𝕄) ⊢ MayWait (c : Thread nD τ) (.dma (sS d h)) 0 (owed c j) :=
  Pipeline.mayWait_of_levAts (by rw [L_tc]; decide) fun g i hg => ⟨(owed_lv hg).1, by have := (owed_lv hg).2; rw [lv_s]; omega⟩

omit [FloatOps F] in
theorem mayWait_r (c : Dev nD) (d h) {r j : ℕ} (hr : r < 8) (hj : 6 * r + 2 * h.val + 2 ≤ j) :
    (levAts L lv : sProp 𝕄) ⊢ MayWait (c : Thread nD τ) (.dma (rS d h)) r (owed c j) :=
  Pipeline.mayWait_of_levAts (by rw [L_tc]; exact Finset.mem_range.mpr hr) fun g i hg => ⟨(owed_lv hg).1, by have := (owed_lv hg).2; rw [lv_r]; omega⟩

end Cert.KernelIdeal.Rs

end
-- ==== Proof.KernelIdeal.Rules.lean ====
/-
# One step of the body at a time

A copy, a wait on its send semaphore, a wait on its receive semaphore, a load and a store, each at a symbolic device,
direction and hop.
-/
module

public import proofs.«01_k».proof.Proof.KernelIdeal.Sched

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- A device's thirteen cells: the barrier's and the twelve copies'. -/
abbrev Cid : Type := Option (Fin 12)
abbrev csem : Cid → SemLoc sig := fun | none => .reg barS | some k => .dma (os k)
abbrev kcell (ck : Dev nD × Cid) : GSem nD τ sig := ((ck.1 : Thread nD τ), csem ck.2)

/-- Every cell's invariant. -/
def invs (K : Dev nD × Cid → ℕ) : sProp 𝕄 := bigSep Finset.univ fun ck : Dev nD × Cid => cellInv ER (rs m) (K ck) (kcell ck)
instance invs_persistent (K : Dev nD × Cid → ℕ) : BI.Persistent (invs m K) := by unfold invs; infer_instance

theorem inv_at (K : Dev nD × Cid → ℕ) (c : Dev nD) (k : Cid) : invs m K ⊢ cellInv ER (rs m) (K (c, k)) (kcell (c, k)) :=
  bigSep_elim (Finset.mem_univ (c, k))
theorem inv_s (K : Dev nD × Cid → ℕ) (d h) (c : Dev nD) : invs m K ⊢ cellInv ER (rs m) (K (c, some (sIx d h))) (sCell d h c) := inv_at m K c (some (sIx d h))
theorem inv_r (K : Dev nD × Cid → ℕ) (d h) (c : Dev nD) : invs m K ⊢ cellInv ER (rs m) (K (c, some (rIx d h))) (rCell d h c) := inv_at m K c (some (rIx d h))

/-! ## The tokens of the rounds to come -/

/-- The duty tokens of a cell's rounds from `r` on. -/
def toks (g : GSem nD τ sig) (r : ℕ) : sProp 𝕄 := bigSep (Finset.Ico r 8) fun s => dutyTok ER g s false
/-- The credits of a receive cell's rounds from `r` on. -/
def creds (d : Bool) (h : Fin 3) (c : Dev nD) (r : ℕ) : sProp 𝕄 := bigSep (Finset.Ico r 8) fun s => cred (tallyAt (rCell d h c) s N)

omit [FloatOps F] in
theorem toks_step (g : GSem nD τ sig) {r : ℕ} (hr : r < 8) : (toks (F := F) g r) = iprop(dutyTok ER g r false ∗ toks g (r + 1)) := by
  unfold toks; rw [Ico_step hr, BI.bigSep_insert (by simp)]; rfl
omit [FloatOps F] in
theorem creds_step (d h) (c : Dev nD) {r : ℕ} (hr : r < 8) : (creds (F := F) d h c r) = iprop(cred (tallyAt (rCell d h c) r N) ∗ creds d h c (r + 1)) := by
  unfold creds; rw [Ico_step hr, BI.bigSep_insert (by simp)]; rfl

/-- Direction `d`'s hop `h` at device `c`, its rounds before `r` over. -/
def chan (d : Bool) (h : Fin 3) (c : Dev nD) (r : ℕ) : sProp 𝕄 :=
  iprop(atPos ER (sCell d h c) r ∅ 0 ∗ atPos ER (rCell d h c) r ∅ 0 ∗ reached ER (sCell d h c) r
    ∗ toks (sCell d h c) r ∗ toks (rCell d h (nb d c)) r ∗ creds d h c r)
/-- The same, round `r`'s copy under way. -/
def sent (d : Bool) (h : Fin 3) (c : Dev nD) (r : ℕ) : sProp 𝕄 :=
  iprop(cred (tallyAt (sCell d h c) 0 N) ∗ atPos ER (sCell d h c) r ∅ 0 ∗ atPos ER (rCell d h c) r ∅ 0
    ∗ toks (sCell d h c) (r + 1) ∗ toks (rCell d h (nb d c)) (r + 1) ∗ creds d h c r)
/-- The same, its source back. -/
def back (d : Bool) (h : Fin 3) (c : Dev nD) (r : ℕ) : sProp 𝕄 :=
  iprop(atPos ER (sCell d h c) (r + 1) ∅ 0 ∗ atPos ER (rCell d h c) r ∅ 0 ∗ reached ER (sCell d h c) (r + 1)
    ∗ toks (sCell d h c) (r + 1) ∗ toks (rCell d h (nb d c)) (r + 1) ∗ creds d h c r)

/-- What device `c` owes, waits not counted. -/
def ow (c : Dev nD) (O : CellTallies nD τ sig ℕ) : sProp 𝕄 := iprop(∃ W, owes (c : Thread nD τ) O W)

/-- A slot and its mark: what is handed on and what is kept. -/
theorem give_split (p : Dev nD) (d h) (s : ℕ) : (give (F := F) p d h s) ⊢ iprop(carry p d h s ∗ left p d h s) := by
  unfold carry left
  by_cases hs : s < 8
  · rw [if_pos hs, if_pos hs]; iintro H; isplitl; · iexact H
    iempintro
  · rw [if_neg hs, if_neg hs]; unfold give; iintro ⟨H, -⟩; isplitr; · iempintro
    iexact H

/-! ## Copies and waits -/

/-- The copy of hop `h` in direction `d`. -/
theorem wp_copy {α : Type} {Q : α → sProp 𝕄} (K : Dev nD × Cid → ℕ) (d : Bool) (h : Fin 3) (c n : Dev nD) {r : ℕ} (hr : r < 8) (hn : n = nb d c)
    {s1 s2 : DmaSem sig} (h1 : s1 = sS d h) (h2 : s2 = rS d h)
    {hsc : (slotM d h : Memref sig (Dev.tc n : Thread nD τ).2.kind .vmem S1024x512 .bf16).view.ref.isScScratch = false}
    {hsrc : (sendM d).view.WordExact} {hdst : (slotM d h).view.WordExact}
    {hsem : DmaTarget.Typed .vmem (.dma s2) (.remote (Dev.tc n : Thread nD τ) (slotM d h : Memref sig .tc .vmem S1024x512 .bf16) (.dma s1) hsc)}
    {k : PUnit → Prog (TpuEff nD τ sig (Elt F) Λ₀ .tc) α} {j : ℕ} (hj : j = jOf r h d) :
    iprop(invs m K ∗ chan d h c r ∗ own c (sendM d) (A m r d h.val c) ∗ give (nb d c) d h r ∗ give c (!d) (hb h) (rb h r) ∗ ow c (owed c j))
      ⊢ iprop(((sent d h c r ∗ left c (!d) (hb h) (rb h r) ∗ ow c (owed c (j + 1))) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendM d) (.remote (Dev.tc n : Thread nD τ) (slotM d h) (.dma s1) hsc) (.dma s2) hsrc hdst hsem) k) Q) := by
  subst hn h1 h2 hj
  unfold ow
  iintro ⟨#HI, Hch, Hsrc, Hg, Hf, ⟨%W, HO⟩⟩ Hk
  ihave Hf' := (give_split c (!d) (hb h) (rb h r)) $$ Hf
  icases Hf' with ⟨Hca, Hle⟩
  unfold chan give ownAny own owns
  rw [toks_step (sCell d h c) hr, toks_step (rCell d h (nb d c)) hr]
  icases Hch with ⟨HaS, HaR, #HrS, ⟨HtS, HtS'⟩, ⟨HtR, HtR'⟩, Hcr⟩
  icases Hg with ⟨⟨%X, %fd, %hfd, Hd⟩, #HrR⟩
  icases Hsrc with ⟨%fs, %hfs, Hs⟩
  iapply (Rounds.wp_send_pointsTo_with 𝒱₀ ER (rs m) (c : Thread nD τ) none (κ₁ := K (c, some (sIx d h))) (κ₂ := K (nb d c, some (rIx d h)))
    (r₁ := r) (r₂ := r) (d₁ := false) (d₂ := false) (fs := fs) (fd := fd) (F := carry c (!d) (hb h) (rb h r))
    (by rw [duties_os m c r _ hr]; exact Finset.mem_singleton_self _) (by rw [duties_os m (nb d c) r _ hr]; exact Finset.mem_singleton_self _)
    r 0 N (N_slot d h _ ⟨_, rfl⟩) (amount_os m c r _ false) (amount_os m (nb d c) r _ false) (owed c (jOf r h d + 1)) (owed_send c r h d hr) (W := W)
    (by rw [payload_s]; unfold sendPay own owns; iintro H; iexists fs; isplitr; · ipureintro; exact hfs
        iexact H)
    (by rw [payload_r]; unfold recvPay own owns; rw [nb_not]
        iintro ⟨H, HF⟩
        isplitl [H]
        · iexists _; isplitr [H]; rotate_left; · iexact H
          ipureintro; rw [View.read_write_univ]; exact hfs
        iexact HF)) $$ [Hs Hd Hca HO HtS HtR]
  · isplitr; · iapply (inv_s m K d h c); iexact HI
    isplitr; · iapply (inv_r m K d h (nb d c)); iexact HI
    isplitl [Hs]; · iexact Hs
    isplitl [Hd Hca]
    · isplitl [Hd] <;> iassumption
    isplitl [HO]; · iexact HO
    isplitl [HtS]; · iexact HtS
    isplitr; · iexact HrS
    isplitl [HtR]; · iexact HtR
    iexact HrR
  iintro ⟨Hc, HO⟩
  iapply Hk
  unfold sent
  isplitl [Hc HaS HaR HtS' HtR' Hcr]
  · isplitl [Hc]; · iexact Hc
    isplitl [HaS]; · iexact HaS
    isplitl [HaR]; · iexact HaR
    isplitl [HtS']; · iexact HtS'
    isplitl [HtR'] <;> iassumption
  isplitl [Hle]; · iexact Hle
  iexists W; iexact HO

/-- The wait on the send semaphore. -/
theorem wp_waitSend {α : Type} {Q : α → sProp 𝕄} (K : Dev nD × Cid → ℕ) (d : Bool) (h : Fin 3) (c : Dev nD) {r : ℕ} (hr : r < 8) {s1 : DmaSem sig} (h1 : s1 = sS d h)
    {hx hy} {k : PUnit → Prog (TpuEff nD τ sig (Elt F) Λ₀ .tc) α} (j : ℕ) :
    iprop(invs m K ∗ levAts L lv ∗ sent d h c r ∗ ow c (owed c j))
      ⊢ iprop(((back d h c r ∗ own c (sendM d) (A m r d h.val c) ∗ ow c (owed c j)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s1 (slotM d h) (sendM d) hx hy) k) Q) := by
  subst h1
  unfold sent back ow
  iintro ⟨#HI, #Hlev, ⟨Hc, HaS, HaR, HtS, HtR, Hcr⟩, ⟨%W, HO⟩⟩ Hk
  iapply (Rounds.wp_wait_rest_token 𝒱₀ ER (rs m) (c : Thread nD τ) none (κ := K (c, some (sIx d h)))
      (wpE_waitDma2_eq 𝒱₀ (c : Thread nD τ) none Set.univ) (Set.mem_univ _) 0 (O := owed c j) (W := W) (R := r) (m := 0) (T := ∅)
      (by rw [Nat.zero_add, expect_os m c r _ hr])) $$ [Hc HO HaS]
  · isplitr; · iapply (inv_s m K d h c); iexact HI
    isplitl [Hc]; · cases d <;> iexact Hc
    isplitl [HO]; · iexact HO
    isplitr; · iapply (mayWait_s c d h j); iexact Hlev
    iexact HaS
  iintro ⟨HO, HaS, #HrS, Hpay⟩
  ihave Hp := (Entails.of_eq (rest_s m c d h r hr)) $$ Hpay
  unfold sendPay
  iapply Hk
  isplitl [HaS HaR HtS HtR Hcr]
  · isplitl [HaS]; · iexact HaS
    isplitl [HaR]; · iexact HaR
    isplitr; · iexact HrS
    isplitl [HtS]; · iexact HtS
    isplitl [HtR] <;> iassumption
  isplitl [Hp]; · iexact Hp
  iexists _; iexact HO

/-- The wait on the receive semaphore. -/
theorem wp_waitRecv {α : Type} {Q : α → sProp 𝕄} (K : Dev nD × Cid → ℕ) (d : Bool) (h : Fin 3) (c : Dev nD) {r : ℕ} (hr : r < 8) {s1 : DmaSem sig} (h1 : s1 = rS d h)
    {hx hy} {k : PUnit → Prog (TpuEff nD τ sig (Elt F) Λ₀ .tc) α} {j : ℕ} (hj : 6 * r + 2 * h.val + 2 ≤ j) :
    iprop(invs m K ∗ levAts L lv ∗ back d h c r ∗ ow c (owed c j))
      ⊢ iprop(((chan d h c (r + 1) ∗ reached ER (rCell d h c) (r + 1) ∗ own c (slotM d h) (A m r d h.val (nb (!d) c))
              ∗ carry (nb (!d) c) (!d) (hb h) (rb h r) ∗ ow c (owed c j)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s1 (sendM d) (slotM d h) hx hy) k) Q) := by
  subst h1
  unfold chan back ow
  rw [creds_step d h c hr]
  iintro ⟨#HI, #Hlev, ⟨HaS, HaR, #HrS, HtS, HtR, ⟨Hc, Hcr⟩⟩, ⟨%W, HO⟩⟩ Hk
  iapply (Rounds.wp_wait_rest_token 𝒱₀ ER (rs m) (c : Thread nD τ) none (κ := K (c, some (rIx d h)))
      (wpE_waitDma2_eq 𝒱₀ (c : Thread nD τ) none Set.univ) (Set.mem_univ _) r (O := owed c j) (W := W) (R := r) (m := 0) (T := ∅)
      (by rw [Nat.zero_add, expect_os m c r _ hr])) $$ [Hc HO HaR]
  · isplitr; · iapply (inv_r m K d h c); iexact HI
    isplitl [Hc]; · cases d <;> iexact Hc
    isplitl [HO]; · iexact HO
    isplitr; · iapply (mayWait_r c d h hr hj); iexact Hlev
    iexact HaR
  iintro ⟨HO, HaR, #HrR, Hpay⟩
  ihave Hp := (Entails.of_eq (rest_r m c d h r hr)) $$ Hpay
  unfold recvPay
  icases Hp with ⟨Hp, Hca⟩
  iapply Hk
  isplitl [HaS HaR HtS HtR Hcr]
  · isplitl [HaS]; · iexact HaS
    isplitl [HaR]; · iexact HaR
    isplitr; · iexact HrS
    isplitl [HtS]; · iexact HtS
    isplitl [HtR] <;> iassumption
  isplitr; · iexact HrR
  isplitl [Hp]; · iexact Hp
  isplitl [Hca]; · iexact Hca
  iexists _; iexact HO

/-! ## Loads and stores -/

/-- A load reads what is owned. -/
theorem wp_ld {α : Type} {Q : α → sProp 𝕄} {s : Shape} {e : EltTy} (b : Memref sig .tc .vmem s e) (c : Dev nD) {R : Rect s} {hl : b.view.LoadsAt R.toLoadRect}
    (X : s.Idx → Elt F e) {k : (R.toLoadRect.shape.Idx → Elt F e) → Prog (TpuEff nD τ sig (Elt F) Λ₀ .tc) α} :
    (own c b X) ⊢ iprop((own c b X -∗ wp frame (wpE (defs₀ (F := F)) 𝒱₀ (c : Thread nD τ) none) Set.univ (k (View.ld X R)) Q)
          -∗ wp frame (wpE (defs₀ (F := F)) 𝒱₀ (c : Thread nD τ) none) Set.univ (.op (.load b R.toLoadRect hl) k) Q) := by
  unfold own owns
  iintro ⟨%f, %hf, H⟩ Hk
  iapply (wp_load 𝒱₀ (c : Thread nD τ) none Set.univ (m := b) (View.setOn_subset_set _ _)) $$ H
  iintro H
  rw [View.readAt_eq_ld, hf]
  iapply Hk
  iexists f; isplitr; · ipureintro; exact hf
  iexact H

/-- A load of a slot, its leading axis dropped, reads what the slot holds. -/
theorem wp_ldSlot {α : Type} {Q : α → sProp 𝕄} (d : Bool) (h : Fin 3) (c : Dev nD) {hl : (recvM d).view.LoadsAt (slotR h).toLoadRect}
    (X : Vec F S1024x512 .bf16) {k : (Vec F S1x1024x512 .bf16) → Prog (TpuEff nD τ sig (Elt F) Λ₀ .tc) α} :
    (own c (slotM d h) X) ⊢ iprop((∀ v, ⌜dropLead v = X⌝ -∗ own c (slotM d h) X -∗ wp frame (wpE (defs₀ (F := F)) 𝒱₀ (c : Thread nD τ) none) Set.univ (k v) Q)
          -∗ wp frame (wpE (defs₀ (F := F)) 𝒱₀ (c : Thread nD τ) none) Set.univ (.op (.load (recvM d) (slotR h).toLoadRect hl) k) Q) := by
  unfold own owns
  iintro ⟨%f, %hf, H⟩ Hk
  iapply (wp_load_rect 𝒱₀ (c : Thread nD τ) none Set.univ (m := recvM d) (r := slotR h) (S := (slotM d h).view.set) (q := fullShare) (f := f)
    (by rw [show (slotM d h).view.set = ((recvM d).access (slotR h)).set from View.set_reshape _ _])) $$ H
  iintro H
  iapply Hk $$ %_ [] [H]
  · ipureintro; exact (dropLead_slot d h f).symm.trans hf |>.symm ▸ rfl
  iexists f; isplitr; · ipureintro; exact hf
  iexact H

/-- A store of a whole send buffer. -/
theorem wp_stSend {α : Type} {Q : α → sProp 𝕄} (d : Bool) (c : Dev nD) (X w : Vec F S1024x512 .bf16) {hx hm} {k : PUnit → Prog (TpuEff nD τ sig (Elt F) Λ₀ .tc) α} :
    (own c (sendM d) X) ⊢ iprop((own c (sendM d) w -∗ wp frame (wpE (defs₀ (F := F)) 𝒱₀ (c : Thread nD τ) none) Set.univ (k ⟨⟩) Q)
          -∗ wp frame (wpE (defs₀ (F := F)) 𝒱₀ (c : Thread nD τ) none) Set.univ
            (.op (.store (sendM d) (Rect.unit (s := S1024x512) ![0, 0] S1024x512.size inb_S1024x512_S1024x512_0_0) w Finset.univ hx hm) k) Q) := by
  have hz : (![0, 0] : Fin 2 → Nat) = fun _ => 0 := funext fun a => by fin_cases a <;> rfl
  unfold own owns
  iintro ⟨%f, %hf, H⟩ Hk
  iapply (wp_store 𝒱₀ (c : Thread nD τ) none Set.univ (m := sendM d) (r := Rect.unit (s := S1024x512) ![0, 0] S1024x512.size inb_S1024x512_S1024x512_0_0) (S := (sendM d).view.set)
    ((View.setOn_subset_set _ _).trans (View.set_slice_subset _ _))) $$ H
  iintro H
  iapply Hk
  iexists _; isplitr [H]; rotate_left; · iexact H
  ipureintro
  cases d
  · exact (congrArg _ (Memref.write_access_unit_zero_univ (Elt F) cc0_scratch1 hz inb_S1024x512_S1024x512_0_0 f w)).trans (View.read_whole _ _)
  · exact (congrArg _ (Memref.write_access_unit_zero_univ (Elt F) cc0_scratch0 hz inb_S1024x512_S1024x512_0_0 f w)).trans (View.read_whole _ _)

/-- A store of a part of a buffer. -/
theorem wp_st {α : Type} {Q : α → sProp 𝕄} {s : Shape} {e : EltTy} (b : Memref sig .tc .vmem s e) (c : Dev nD) (R : Rect s) (X : s.Idx → Elt F e) (w : R.shape.Idx → Elt F e) {hx hm}
    {k : PUnit → Prog (TpuEff nD τ sig (Elt F) Λ₀ .tc) α} :
    (own c b X) ⊢ iprop((own c b (R.overlay X w) -∗ wp frame (wpE (defs₀ (F := F)) 𝒱₀ (c : Thread nD τ) none) Set.univ (k ⟨⟩) Q)
          -∗ wp frame (wpE (defs₀ (F := F)) 𝒱₀ (c : Thread nD τ) none) Set.univ (.op (.store b R w Finset.univ hx hm) k) Q) := by
  unfold own owns
  iintro ⟨%f, %hf, H⟩ Hk
  iapply (wp_store 𝒱₀ (c : Thread nD τ) none Set.univ (m := b) (r := R) (S := b.view.set)
    ((View.setOn_subset_set _ _).trans (View.set_slice_subset _ _))) $$ H
  iintro H
  iapply Hk
  iexists _; isplitr [H]; rotate_left; · iexact H
  ipureintro
  funext y
  by_cases hy : y ∈ R.set
  · obtain ⟨x, rfl⟩ := R.exists_idx_of_mem hy
    exact (View.read_slice_write_emb R f w (Finset.mem_univ x)).trans (R.overlay_emb X w x).symm
  · rw [R.overlay_of_not_mem X w hy, ← hf]
    exact View.read_slice_write_of_not_mem R f w Finset.univ (by rw [Rect.map_emb_univ]; exact hy)

end Cert.KernelIdeal.Rs

end
-- ==== Proof.KernelIdeal.Hop.lean ====
/-
# One hop, and what follows it

Both directions' copies, the loads for the next product, and the four waits; then the received sum added in.
-/
module

public import proofs.«01_k».proof.Proof.KernelIdeal.Rules

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev rL : Rect S1024x1024 := Rect.unit (s := S1024x1024) ![0, 0] S1024x512.size inb_S1024x1024_S1024x512_0_0
abbrev rR : Rect S1024x1024 := Rect.unit (s := S1024x1024) ![0, 512] S1024x512.size inb_S1024x1024_S1024x512_0_512
abbrev rF : Rect S1024x512 := Rect.unit (s := S1024x512) ![0, 0] S1024x512.size inb_S1024x512_S1024x512_0_0

/-- A load of a row chunk, its offset known. -/
theorem ld_chunk (X : S4096x1024.Idx → Elt F .f32) {o : Fin 2 → Nat} (ho : ∀ a, o a + S1024x1024.size a ≤ S4096x1024.size a) {k : Fin 4} (e : o = coff k) :
    (View.ld (Val := Elt F) (e' := .f32) X (Rect.unit (s := S4096x1024) o S1024x1024.size ho) : S1024x1024.Idx → Elt F .f32) = chunk X k := by subst e; rfl

/-- One direction before a hop. -/
def before (d : Bool) (h h' : Fin 3) (r r' : ℕ) (c : Dev nD) : sProp 𝕄 :=
  iprop(chan d h c r ∗ own c (sendM d) (A m r d h.val c) ∗ give (nb d c) d h r ∗ give c d h' r')
/-- One direction after it. -/
def behind (d : Bool) (h h' : Fin 3) (r r' : ℕ) (c : Dev nD) : sProp 𝕄 :=
  iprop(chan d h c (r + 1) ∗ own c (sendM d) (A m r d h.val c) ∗ own c (slotM d h) (A m r d h.val (nb (!d) c))
    ∗ reached ER (rCell d h c) (r + 1) ∗ carry (nb d c) d h' r' ∗ left c d h' r')

/-- A hop: two copies, four loads, four waits. -/
theorem wp_hop {α : Type} {Q : α → sProp 𝕄} (K : Dev nD × Cid → ℕ) (h h' : Fin 3) (r r' : ℕ) (c : Dev nD) (hr : r < 8) (e : hb h = h') (e' : rb h r = r')
    (a1 : Memref sig .tc .vmem S4096x1024 .f32) (a2 : Memref sig .tc .vmem S1024x1024 .f32) (X : S4096x1024.Idx → Elt F .f32) (W : S1024x1024.Idx → Elt F .f32)
    {n1 n2 : Dev nD} (hn1 : n1 = nb true c) (hn2 : n2 = nb false c)
    {s1 s2 s3 s4 : DmaSem sig} (h1 : s1 = sS true h) (h2 : s2 = rS true h) (h3 : s3 = sS false h) (h4 : s4 = rS false h)
    {o3 o4 : Fin 2 → Nat} {ho3 : ∀ a, o3 a + S1024x1024.size a ≤ S4096x1024.size a} {ho4 : ∀ a, o4 a + S1024x1024.size a ≤ S4096x1024.size a}
    (e3 : o3 = coff (ck true h.succ c)) (e4 : o4 = coff (ck false h.succ c))
    {hsc1 : (slotM true h : Memref sig (Dev.tc n1 : Thread nD τ).2.kind .vmem S1024x512 .bf16).view.ref.isScScratch = false}
    {hsrc1 : (sendM true).view.WordExact} {hdst1 : (slotM true h).view.WordExact}
    {hsem1 : DmaTarget.Typed .vmem (.dma s2) (.remote (Dev.tc n1 : Thread nD τ) (slotM true h : Memref sig .tc .vmem S1024x512 .bf16) (.dma s1) hsc1)}
    {hsc2 : (slotM false h : Memref sig (Dev.tc n2 : Thread nD τ).2.kind .vmem S1024x512 .bf16).view.ref.isScScratch = false}
    {hsrc2 : (sendM false).view.WordExact} {hdst2 : (slotM false h).view.WordExact}
    {hsem2 : DmaTarget.Typed .vmem (.dma s4) (.remote (Dev.tc n2 : Thread nD τ) (slotM false h : Memref sig .tc .vmem S1024x512 .bf16) (.dma s3) hsc2)}
    {l1 : a1.view.LoadsAt (Rect.unit (s := S4096x1024) o3 S1024x1024.size ho3).toLoadRect} {l2 : a2.view.LoadsAt rL.toLoadRect}
    {l3 : a1.view.LoadsAt (Rect.unit (s := S4096x1024) o4 S1024x1024.size ho4).toLoadRect} {l4 : a2.view.LoadsAt rR.toLoadRect} {x1 y1 x2 y2 x3 y3 x4 y4}
    {k : Vec F S1024x1024 .f32 → Vec F S1024x512 .f32 → Vec F S1024x1024 .f32 → Vec F S1024x512 .f32 → Prog (TpuEff nD τ sig (Elt F) Λ₀ .tc) α} :
    iprop(invs m K ∗ levAts L lv ∗ own c a1 X ∗ own c a2 W ∗ before m true h h' r r' c ∗ before m false h h' r r' c ∗ ow c (owed c (6 * r + 2 * h.val)))
      ⊢ iprop(((own c a1 X ∗ own c a2 W ∗ behind m true h h' r r' c ∗ behind m false h h' r r' c ∗ ow c (owed c (6 * r + 2 * h.val + 2)))
            -∗ wp frame (wpE (defs₀ (F := F)) 𝒱₀ (c : Thread nD τ) none) Set.univ (k (chunk X (ck true h.succ c)) (half true W) (chunk X (ck false h.succ c)) (half false W)) Q)
          -∗ wp frame (wpE (defs₀ (F := F)) 𝒱₀ (c : Thread nD τ) none) Set.univ
              (.op (.enqueueDma (sendM true) (.remote (Dev.tc n1 : Thread nD τ) (slotM true h) (.dma s1) hsc1) (.dma s2) hsrc1 hdst1 hsem1) fun _ =>
               .op (.enqueueDma (sendM false) (.remote (Dev.tc n2 : Thread nD τ) (slotM false h) (.dma s3) hsc2) (.dma s4) hsrc2 hdst2 hsem2) fun _ =>
               .op (.load a1 (Rect.unit (s := S4096x1024) o3 S1024x1024.size ho3).toLoadRect l1) fun v1 =>
               .op (.load a2 rL.toLoadRect l2) fun v2 =>
               .op (.load a1 (Rect.unit (s := S4096x1024) o4 S1024x1024.size ho4).toLoadRect l3) fun v3 =>
               .op (.load a2 rR.toLoadRect l4) fun v4 =>
               .op (.waitDma2 s1 (slotM true h) (sendM true) x1 y1) fun _ =>
               .op (.waitDma2 s2 (sendM true) (slotM true h) x2 y2) fun _ =>
               .op (.waitDma2 s3 (slotM false h) (sendM false) x3 y3) fun _ =>
               .op (.waitDma2 s4 (sendM false) (slotM false h) x4 y4) fun _ => k v1 v2 v3 v4) Q) := by
  subst e e'
  unfold before
  iintro ⟨#HI, #Hlev, Hx, Hw, ⟨HcT, HsT, HgT, HfT⟩, ⟨HcF, HsF, HgF, HfF⟩, HO⟩ Hk
  iapply (wp_copy m K true h c n1 hr hn1 h1 h2 (j := 6 * r + 2 * h.val) (by simp [jOf])) $$ [HcT HsT HgT HfF HO]
  · isplitr; · iexact HI
    isplitl [HcT]; · iexact HcT
    isplitl [HsT]; · iexact HsT
    isplitl [HgT]; · iexact HgT
    isplitl [HfF]; · iexact HfF
    iexact HO
  iintro ⟨HcT, HlF, HO⟩
  iapply (wp_copy m K false h c n2 hr hn2 h3 h4 (j := 6 * r + 2 * h.val + 1) (by simp [jOf])) $$ [HcF HsF HgF HfT HO]
  · isplitr; · iexact HI
    isplitl [HcF]; · iexact HcF
    isplitl [HsF]; · iexact HsF
    isplitl [HgF]; · iexact HgF
    isplitl [HfT]; · iexact HfT
    iexact HO
  iintro ⟨HcF, HlT, HO⟩
  iapply (wp_ld a1 c X) $$ Hx; iintro Hx
  iapply (wp_ld a2 c W) $$ Hw; iintro Hw
  iapply (wp_ld a1 c X) $$ Hx; iintro Hx
  iapply (wp_ld a2 c W) $$ Hw; iintro Hw
  iapply (wp_waitSend m K true h c hr h1 (6 * r + 2 * h.val + 2)) $$ [HcT HO]
  · isplitr; · iexact HI
    isplitr; · iexact Hlev
    isplitl [HcT] <;> iassumption
  iintro ⟨HcT, HsT, HO⟩
  iapply (wp_waitRecv m K true h c hr h2 (le_refl _)) $$ [HcT HO]
  · isplitr; · iexact HI
    isplitr; · iexact Hlev
    isplitl [HcT] <;> iassumption
  iintro ⟨HcT, HrT, HsT', HkF, HO⟩
  iapply (wp_waitSend m K false h c hr h3 (6 * r + 2 * h.val + 2)) $$ [HcF HO]
  · isplitr; · iexact HI
    isplitr; · iexact Hlev
    isplitl [HcF] <;> iassumption
  iintro ⟨HcF, HsF, HO⟩
  iapply (wp_waitRecv m K false h c hr h4 (le_refl _)) $$ [HcF HO]
  · isplitr; · iexact HI
    isplitr; · iexact Hlev
    isplitl [HcF] <;> iassumption
  iintro ⟨HcF, HrF, HsF', HkT, HO⟩
  rw [ld_chunk X ho3 e3, ld_chunk X ho4 e4]
  iapply Hk
  unfold behind
  isplitl [Hx]; · iexact Hx
  isplitl [Hw]; · iexact Hw
  isplitl [HcT HsT HsT' HrT HkT HlT]
  · isplitl [HcT]; · iexact HcT
    isplitl [HsT]; · iexact HsT
    isplitl [HsT']; · iexact HsT'
    isplitl [HrT]; · iexact HrT
    isplitl [HkT]; · iexact HkT
    iexact HlT
  isplitl [HcF HsF HsF' HrF HkF HlF]
  · isplitl [HcF]; · iexact HcF
    isplitl [HsF]; · iexact HsF
    isplitl [HsF']; · iexact HsF'
    isplitl [HrF]; · iexact HrF
    isplitl [HkF]; · iexact HkF
    iexact HlF
  iexact HO

/-- The received sum, this device's product added, stored for the next hop. -/
theorem wp_fold {α : Type} {Q : α → sProp 𝕄} (d : Bool) (h : Fin 3) (r : ℕ) (c : Dev nD) {p : FVec F S1024x512 .f32}
    {pay : Vec F S1x1024x512 .bf16 → FVec F S1024x512 .bf16} (hpay : ∀ v, pay v = enc (addTo (dropLead v) p))
    (hp : A m r d (h.val + 1) c = enc (addTo (A m r d h.val (nb (!d) c)) p)) {Y : Vec F S1024x512 .bf16}
    {l1 : (recvM d).view.LoadsAt (slotR h).toLoadRect} {l2 : (sendM d).view.LoadsAt rF.toLoadRect} {hx hm}
    {k : PUnit → Prog (TpuEff nD τ sig (Elt F) Λ₀ .tc) α} :
    iprop(own c (slotM d h) (A m r d h.val (nb (!d) c)) ∗ own c (sendM d) Y)
      ⊢ iprop(((own c (slotM d h) (A m r d h.val (nb (!d) c)) ∗ own c (sendM d) (A m r d (h.val + 1) c)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load (recvM d) (slotR h).toLoadRect l1) fun v => .op (.load (sendM d) rF.toLoadRect l2) fun _ => .op (.store (sendM d) rF (pay v) Finset.univ hx hm) k) Q) := by
  iintro ⟨Hs, Hb⟩ Hk
  iapply (wp_ldSlot d h c _) $$ Hs
  iintro %v %hv Hs
  iapply (wp_ld (sendM d) c Y) $$ Hb; iintro Hb
  iapply (wp_stSend d c Y (pay v)) $$ Hb; iintro Hb
  rw [hpay, hv, ← hp]
  iapply Hk
  isplitl [Hs] <;> iassumption

/-- The last received sum, this device's product added, clamped and stored in a half of the result. -/
theorem wp_out {α : Type} {Q : α → sProp 𝕄} (d : Bool) (r : ℕ) (c : Dev nD) (a3 : Memref sig .tc .vmem S1024x1024 .f32) {R : Rect S1024x1024}
    {pay : Vec F S1x1024x512 .bf16 → R.shape.Idx → Elt F .f32} (G : R.shape.Idx → Elt F .f32)
    (hpay : ∀ v, dropLead v = A m r d 2 (nb (!d) c) → pay v = G) {Y : S1024x1024.Idx → Elt F .f32}
    {l1 : (recvM d).view.LoadsAt (slotR 2).toLoadRect} {l2 : a3.view.LoadsAt R.toLoadRect} {hx hm}
    {k : PUnit → Prog (TpuEff nD τ sig (Elt F) Λ₀ .tc) α} :
    iprop(own c (slotM d 2) (A m r d 2 (nb (!d) c)) ∗ own c a3 Y)
      ⊢ iprop(((own c (slotM d 2) (A m r d 2 (nb (!d) c)) ∗ own c a3 (R.overlay Y G)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load (recvM d) (slotR 2).toLoadRect l1) fun v => .op (.load a3 R.toLoadRect l2) fun _ => .op (.store a3 R (pay v) Finset.univ hx hm) k) Q) := by
  iintro ⟨Hs, Hb⟩ Hk
  iapply (wp_ldSlot d 2 c _) $$ Hs
  iintro %v %hv Hs
  iapply (wp_ld a3 c Y) $$ Hb; iintro Hb
  iapply (wp_st a3 c R Y (pay v)) $$ Hb; iintro Hb
  rw [hpay v hv]
  iapply Hk
  isplitl [Hs] <;> iassumption

end Cert.KernelIdeal.Rs

end
-- ==== Proof.KernelIdeal.Body.lean ====
/-
# One grid point

What a device holds between two grid points, and the body at a point from one such state to the next.
-/
module

public import proofs.«01_k».proof.Proof.KernelIdeal.Hop

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ
variable (m : (ℓ : Loc nD τ sig) → Buf (Elt F) ℓ)

/-! ## The block a grid point computes -/

/-- Device `c`'s block of the result at grid point `r`: the two directions' halves side by side. -/
def outv (r : ℕ) (c : Dev nD) : S1024x1024.Idx → Elt F .f32 :=
  rR.overlay (rL.overlay (wblk m r c) (res (xblk m) (wblk m r) true c)) (res (xblk m) (wblk m r) false c)

theorem halves_cover (j : S1024x1024.Idx) (h : j ∉ rR.set) : j ∈ rL.set := by
  refine Rect.mem_set_unit.mpr fun a => ?_
  have h0 := (j 0).isLt
  have h1 := (j 1).isLt
  have h2 : (j 1).val < 512 := by
    by_contra hc
    refine h (Rect.mem_set_unit.mpr fun a => ?_)
    fin_cases a
    · exact ⟨Nat.zero_le _, by simpa using h0⟩
    · exact ⟨not_lt.mp hc, by simpa using h1⟩
  fin_cases a
  · exact ⟨Nat.zero_le _, by simpa using h0⟩
  · exact ⟨Nat.zero_le _, by simpa using h2⟩

theorem outv_eq (r : ℕ) (c : Dev nD) (Y : S1024x1024.Idx → Elt F .f32) :
    rR.overlay (rL.overlay Y (res (xblk m) (wblk m r) true c)) (res (xblk m) (wblk m r) false c) = outv m r c := by
  unfold outv
  funext j
  by_cases h : j ∈ rR.set
  · obtain ⟨x, rfl⟩ := rR.exists_idx_of_mem h
    exact (rR.overlay_emb _ _ x).trans (rR.overlay_emb _ _ x).symm
  · rw [Rect.overlay_of_not_mem _ _ _ h, Rect.overlay_of_not_mem _ _ _ h]
    obtain ⟨x, rfl⟩ := rL.exists_idx_of_mem (halves_cover j h)
    exact (rL.overlay_emb _ _ x).trans (rL.overlay_emb _ _ x).symm

/-! ## Between two grid points -/

/-- Direction `d`, `t` grid points over. -/
def mid (d : Bool) (c : Dev nD) (t : ℕ) : sProp 𝕄 :=
  iprop(ownAny c (sendM d) ∗ ownAny c (slotM d 2) ∗ carry (nb d c) d 0 t ∗ left c d 0 t ∗ carry (nb d c) d 1 t ∗ left c d 1 t
    ∗ reached ER (rCell d 2 c) t ∗ chan d 0 c t ∗ chan d 1 c t ∗ chan d 2 c t)

theorem carry_give (p : Dev nD) (d h) {s : ℕ} (hs : s < 8) : (carry (F := F) p d h s) = give p d h s := by unfold carry; rw [if_pos hs]
theorem left_emp (p : Dev nD) (d h) {s : ℕ} (hs : s < 8) : (left (F := F) p d h s) = iprop(emp) := by unfold left; rw [if_pos hs]

/-- What the body starts a grid point from, the handshake done. -/
def ready (K : Dev nD × Cid → ℕ) (c : Dev nD) (t : ℕ) (a1 : Memref sig .tc .vmem S4096x1024 .f32) (a2 a3 : Memref sig .tc .vmem S1024x1024 .f32) : sProp 𝕄 :=
  iprop(invs m K ∗ levAts L lv ∗ own c a1 (xblk m c) ∗ own c a2 (wblk m t c) ∗ ownAny c a3 ∗ mid true c t ∗ mid false c t ∗ ow c (owed c (6 * t)))
/-- What it ends in. -/
def over (c : Dev nD) (t : ℕ) (a1 : Memref sig .tc .vmem S4096x1024 .f32) (a2 a3 : Memref sig .tc .vmem S1024x1024 .f32) : sProp 𝕄 :=
  iprop(own c a1 (xblk m c) ∗ own c a2 (wblk m t c) ∗ own c a3 (outv m t c) ∗ mid true c (t + 1) ∗ mid false c (t + 1) ∗ ow c (owed c (6 * (t + 1))))

set_option maxHeartbeats 1000000 in
set_option maxRecDepth 8000 in
/-- The body at a grid point, the handshake's part given. -/
theorem body_of {P R : sProp 𝕄} (K : Dev nD × Cid → ℕ) (c : Dev nD) (t : ℕ) (ht : t < 8) (i : grid0.Coords)
    (a1 : Memref sig .tc .vmem S4096x1024 .f32) (w1 : a1.IsWhole) (a2 : Memref sig .tc .vmem S1024x1024 .f32) (w2 : a2.IsWhole) (a3 : Memref sig .tc .vmem S1024x1024 .f32) (w3 : a3.IsWhole)
    (hP : P ⊢ wp frame (wpE (defs₀ (F := F)) 𝒱₀ (c : Thread nD τ) none) Set.univ
      (k0_part1 i a1 w1 a2 w2 a3 w3 (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 cc0_scratch6 cc0_scratch7)
      (fun v => iprop(⌜v.1 = c⌝ ∗ ready m K c t a1 a2 a3 ∗ R))) :
    P ⊢ wp frame (wpE (defs₀ (F := F)) 𝒱₀ (c : Thread nD τ) none) Set.univ
      (cc0_body i a1 w1 a2 w2 a3 w3 (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 cc0_scratch6 cc0_scratch7)
      (fun _ => iprop(over m c t a1 a2 a3 ∗ R)) := by
  rw [cc0_body_eq_skeleton]; unfold cc0_body_skel
  rw [wp_bind]
  refine hP.trans (wp_mono _ _ _ fun v => ?_)
  obtain ⟨d0, v2, v13, v24, v30, v31, v32, v33⟩ := v
  iintro ⟨%hd, H, HR⟩
  dsimp only at hd
  subst hd
  simp only [k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton]
  unfold k0_part2_skel k0_part3_skel k0_part4_skel k0_part5_skel k0_part6_skel k0_part7_skel k0_part8_skel k0_part9_skel k0_part10_skel
  simp only [Prog.lift, Prog.bind_op, Prog.bind_ret, Prog.pure_eq_ret]
  unfold ready mid ownAny
  rw [carry_give (nb true d0) true 0 ht, carry_give (nb false d0) false 0 ht, carry_give (nb true d0) true 1 ht, carry_give (nb false d0) false 1 ht,
    left_emp d0 true 0 ht, left_emp d0 false 0 ht, left_emp d0 true 1 ht, left_emp d0 false 1 ht]
  icases H with ⟨#HI, #Hlev, Hx, Hw, ⟨%Y, Ho⟩, ⟨⟨%bT, HbT⟩, HsT2, HgT0, -, HgT1, -, #HrT2, HcT0, HcT1, HcT2⟩,
    ⟨⟨%bF, HbF⟩, HsF2, HgF0, -, HgF1, -, #HrF2, HcF0, HcF1, HcF2⟩, HO⟩
  -- the two first products
  iapply (wp_ld a1 d0 (xblk m d0)) $$ Hx; iintro Hx
  iapply (wp_ld a2 d0 (wblk m t d0)) $$ Hw; iintro Hw
  iapply (wp_ld (sendM true) d0 bT) $$ HbT; iintro HbT
  iapply (wp_stSend true d0 bT _) $$ HbT; iintro HbT
  rw [ld_chunk (xblk m d0) _ (off1_eq d0)]
  ihave HbT := (Entails.of_eq (congrArg (own d0 (sendM true)) (show k0_pay3 (chunk (xblk m d0) (ck true 0 d0)) (half true (wblk m t d0)) = A m t true 0 d0 from rfl))) $$ HbT
  iapply (wp_ld a1 d0 (xblk m d0)) $$ Hx; iintro Hx
  iapply (wp_ld a2 d0 (wblk m t d0)) $$ Hw; iintro Hw
  iapply (wp_ld (sendM false) d0 bF) $$ HbF; iintro HbF
  iapply (wp_stSend false d0 bF _) $$ HbF; iintro HbF
  rw [ld_chunk (xblk m d0) _ (off2_eq d0)]
  ihave HbF := (Entails.of_eq (congrArg (own d0 (sendM false)) (show k0_pay5 (k0_pay4 (chunk (xblk m d0) (ck false 0 d0)) (half false (wblk m t d0))) = A m t false 0 d0 from rfl))) $$ HbF
  -- hop 0
  iapply (wp_hop m K 0 2 t t d0 ht (by decide) (if_pos rfl) a1 a2 (xblk m d0) (wblk m t d0) (dev3_eq d0) (dev4_eq d0) rfl rfl rfl rfl (off3_eq d0 0) (off4_eq d0 0))
    $$ [Hx Hw HcT0 HbT HgT0 HsT2 HcF0 HbF HgF0 HsF2 HO]
  · isplitr; · iexact HI
    isplitr; · iexact Hlev
    isplitl [Hx]; · iexact Hx
    isplitl [Hw]; · iexact Hw
    isplitl [HcT0 HbT HgT0 HsT2]
    · unfold before give ownAny
      isplitl [HcT0]; · iexact HcT0
      isplitl [HbT]; · iexact HbT
      isplitl [HgT0]; · iexact HgT0
      isplitl [HsT2]; · iexact HsT2
      iexact HrT2
    isplitl [HcF0 HbF HgF0 HsF2]
    · unfold before give ownAny
      isplitl [HcF0]; · iexact HcF0
      isplitl [HbF]; · iexact HbF
      isplitl [HgF0]; · iexact HgF0
      isplitl [HsF2]; · iexact HsF2
      iexact HrF2
    iexact HO
  unfold behind
  rw [carry_give (nb true d0) true 2 ht, carry_give (nb false d0) false 2 ht, left_emp d0 true 2 ht, left_emp d0 false 2 ht]
  iintro ⟨Hx, Hw, ⟨HcT0, HbT, HsT0, #HrT0', HgT2, -⟩, ⟨HcF0, HbF, HsF0, #HrF0', HgF2, -⟩, HO⟩
  iapply (wp_fold m true 0 t d0 (fun v => pay8_eq _ v) rfl) $$ [HsT0 HbT]
  · isplitl [HsT0] <;> iassumption
  iintro ⟨HsT0, HbT⟩
  iapply (wp_fold m false 0 t d0 (fun v => pay9_eq _ v) rfl) $$ [HsF0 HbF]
  · isplitl [HsF0] <;> iassumption
  iintro ⟨HsF0, HbF⟩
  -- hop 1
  iapply (wp_hop m K 1 0 t (t + 1) d0 ht (by decide) (if_neg (by decide)) a1 a2 (xblk m d0) (wblk m t d0) (dev5_eq d0) (dev6_eq d0) rfl rfl rfl rfl (off3_eq d0 1) (off4_eq d0 1))
    $$ [Hx Hw HcT1 HbT HgT1 HsT0 HcF1 HbF HgF1 HsF0 HO]
  · isplitr; · iexact HI
    isplitr; · iexact Hlev
    isplitl [Hx]; · iexact Hx
    isplitl [Hw]; · iexact Hw
    isplitl [HcT1 HbT HgT1 HsT0]
    · unfold before give ownAny
      isplitl [HcT1]; · iexact HcT1
      isplitl [HbT]; · iexact HbT
      isplitl [HgT1]; · iexact HgT1
      isplitl [HsT0]; · iexists _; iexact HsT0
      iexact HrT0'
    isplitl [HcF1 HbF HgF1 HsF0]
    · unfold before give ownAny
      isplitl [HcF1]; · iexact HcF1
      isplitl [HbF]; · iexact HbF
      isplitl [HgF1]; · iexact HgF1
      isplitl [HsF0]; · iexists _; iexact HsF0
      iexact HrF0'
    iexact HO
  unfold behind
  iintro ⟨Hx, Hw, ⟨HcT1, HbT, HsT1, #HrT1', HkT0, HlT0⟩, ⟨HcF1, HbF, HsF1, #HrF1', HkF0, HlF0⟩, HO⟩
  iapply (wp_fold m true 1 t d0 (fun v => pay14_eq _ v) rfl) $$ [HsT1 HbT]
  · isplitl [HsT1] <;> iassumption
  iintro ⟨HsT1, HbT⟩
  iapply (wp_fold m false 1 t d0 (fun v => pay15_eq _ v) rfl) $$ [HsF1 HbF]
  · isplitl [HsF1] <;> iassumption
  iintro ⟨HsF1, HbF⟩
  -- hop 2
  iapply (wp_hop m K 2 1 t (t + 1) d0 ht (by decide) (if_neg (by decide)) a1 a2 (xblk m d0) (wblk m t d0) (dev7_eq d0) (dev8_eq d0) rfl rfl rfl rfl (off3_eq d0 2) (off4_eq d0 2))
    $$ [Hx Hw HcT2 HbT HgT2 HsT1 HcF2 HbF HgF2 HsF1 HO]
  · isplitr; · iexact HI
    isplitr; · iexact Hlev
    isplitl [Hx]; · iexact Hx
    isplitl [Hw]; · iexact Hw
    isplitl [HcT2 HbT HgT2 HsT1]
    · unfold before give ownAny
      isplitl [HcT2]; · iexact HcT2
      isplitl [HbT]; · iexact HbT
      isplitl [HgT2]; · iexact HgT2
      isplitl [HsT1]; · iexists _; iexact HsT1
      iexact HrT1'
    isplitl [HcF2 HbF HgF2 HsF1]
    · unfold before give ownAny
      isplitl [HcF2]; · iexact HcF2
      isplitl [HbF]; · iexact HbF
      isplitl [HgF2]; · iexact HgF2
      isplitl [HsF1]; · iexists _; iexact HsF1
      iexact HrF1'
    iexact HO
  unfold behind
  iintro ⟨Hx, Hw, ⟨HcT2, HbT, HsT2, #HrT2', HkT1, HlT1⟩, ⟨HcF2, HbF, HsF2, #HrF2', HkF1, HlF1⟩, HO⟩
  iapply (wp_out m true t d0 a3 (R := rL) (Y := Y) (res (xblk m) (wblk m t) true d0) (fun v hv => (pay1_eq _ v).trans (congrArg (fun x => fin' x (part (xblk m) (wblk m t) true 3 d0)) hv))) $$ [HsT2 Ho]
  · isplitl [HsT2]; · iexact HsT2
    iexact Ho
  iintro ⟨HsT2, Ho⟩
  iapply (wp_out m false t d0 a3 (R := rR) (Y := rL.overlay Y (res (xblk m) (wblk m t) true d0)) (res (xblk m) (wblk m t) false d0) (fun v hv => (pay2_eq _ v).trans (congrArg (fun x => fin' x (part (xblk m) (wblk m t) false 3 d0)) hv))) $$ [HsF2 Ho]
  · isplitl [HsF2]; · iexact HsF2
    iexact Ho
  iintro ⟨HsF2, Ho⟩
  rw [outv_eq, wp_ret]; imodintro
  isplitr [HR]; rotate_left; · iexact HR
  unfold over mid ownAny
  isplitl [Hx]; · iexact Hx
  isplitl [Hw]; · iexact Hw
  isplitl [Ho]; · iexact Ho
  isplitl [HbT HsT2 HkT0 HlT0 HkT1 HlT1 HcT0 HcT1 HcT2]
  · isplitl [HbT]; · iexists _; iexact HbT
    isplitl [HsT2]; · iexists _; iexact HsT2
    isplitl [HkT0]; · iexact HkT0
    isplitl [HlT0]; · iexact HlT0
    isplitl [HkT1]; · iexact HkT1
    isplitl [HlT1]; · iexact HlT1
    isplitr; · iexact HrT2'
    isplitl [HcT0]; · iexact HcT0
    isplitl [HcT1] <;> iassumption
  isplitl [HbF HsF2 HkF0 HlF0 HkF1 HlF1 HcF0 HcF1 HcF2]
  · isplitl [HbF]; · iexists _; iexact HbF
    isplitl [HsF2]; · iexists _; iexact HsF2
    isplitl [HkF0]; · iexact HkF0
    isplitl [HlF0]; · iexact HlF0
    isplitl [HkF1]; · iexact HkF1
    isplitl [HlF1]; · iexact HlF1
    isplitr; · iexact HrF2'
    isplitl [HcF0]; · iexact HcF0
    isplitl [HcF1] <;> iassumption
  iexact HO

/-! ## The handshake -/

/-- One hop's share of the launch, its credits apart. -/
def chan0 (d : Bool) (h : Fin 3) (c : Dev nD) : sProp 𝕄 :=
  iprop(atPos ER (sCell d h c) 0 ∅ 0 ∗ atPos ER (rCell d h c) 0 ∅ 0 ∗ reached ER (sCell d h c) 0 ∗ reached ER (rCell d h c) 0
    ∗ toks (sCell d h c) 0 ∗ toks (rCell d h (nb d c)) 0)
def chans0 (d : Bool) (c : Dev nD) : sProp 𝕄 := iprop(chan0 d 0 c ∗ chan0 d 1 c ∗ chan0 d 2 c)
def creds0 (d : Bool) (c : Dev nD) : sProp 𝕄 := iprop(creds d 0 c 0 ∗ creds d 1 c 0 ∗ creds d 2 c 0)
/-- Direction `d`'s buffers. -/
def bufs (d : Bool) (c : Dev nD) : sProp 𝕄 := iprop(ownAny c (sendM d) ∗ ownAny c (slotM d 0) ∗ ownAny c (slotM d 1) ∗ ownAny c (slotM d 2))

/-- What a device starts from: the invariants, its positions, and the tokens of the duties it pays. -/
def ghost (K : Dev nD × Cid → ℕ) (c : Dev nD) : sProp 𝕄 :=
  iprop(invs m K ∗ atPos ER (barCell c) 0 ∅ 0 ∗ reached ER (barCell (nb false c)) 0 ∗ reached ER (barCell (nb true c)) 0
    ∗ dutyTok ER (barCell (nb false c)) 0 true ∗ dutyTok ER (barCell (nb true c)) 0 false ∗ chans0 true c ∗ chans0 false c)

/-- What the handshake leaves for good. -/
def kept (K : Dev nD × Cid → ℕ) (c : Dev nD) : sProp 𝕄 := iprop(invs m K ∗ levAts L lv ∗ semVal (barCell c) 0)

set_option maxHeartbeats 800000 in
/-- At the first grid point: a unit to each neighbour's barrier, then the wait for both of theirs. -/
theorem part1_first (K : Dev nD × Cid → ℕ) (c : Dev nD) (i : grid0.Coords) (hi : k0_cond1 i = 1#1)
    (a1 : Memref sig .tc .vmem S4096x1024 .f32) (w1 : a1.IsWhole) (a2 : Memref sig .tc .vmem S1024x1024 .f32) (w2 : a2.IsWhole) (a3 : Memref sig .tc .vmem S1024x1024 .f32) (w3 : a3.IsWhole) :
    iprop((ghost m K c ∗ levAts L lv ∗ cred (tallyAt (barCell c) 0 2) ∗ creds0 true c ∗ creds0 false c ∗ bufs true c ∗ bufs false c)
        ∗ own c a1 (xblk m c) ∗ own c a2 (wblk m 0 c) ∗ ownAny c a3 ∗ ow c (O₀ c))
      ⊢ wp frame (wpE (defs₀ (F := F)) 𝒱₀ (c : Thread nD τ) none) Set.univ
      (k0_part1 i a1 w1 a2 w2 a3 w3 (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 cc0_scratch6 cc0_scratch7)
      (fun v => iprop(⌜v.1 = c⌝ ∗ ready m K c 0 a1 a2 a3 ∗ kept m K c)) := by
  rw [k0_part1_eq_skeleton]; unfold k0_part1_skel
  simp only [semSignalWord, semWaitWord, Prog.lift, Prog.bind_op, Prog.bind_ret, Prog.pure_eq_ret, wp_deviceId, dif_pos hi, dev1_eq i c hi, dev2_eq i c hi]
  unfold ghost bufs creds0 ow
  iintro ⟨⟨⟨#HI, HaB, #HrF, #HrT, HtF, HtT, HcT, HcF⟩, #Hlev, HcB, ⟨HkT0, HkT1, HkT2⟩, ⟨HkF0, HkF1, HkF2⟩, ⟨HbT, HsT0, HsT1, HsT2⟩, ⟨HbF, HsF0, HsF1, HsF2⟩⟩, Hx, Hw, Ho, ⟨%W, HO⟩⟩
  unfold chans0 chan0
  icases HcT with ⟨⟨HasT0, HarT0, #HqT0, #HvT0, HtsT0, HtrT0⟩, ⟨HasT1, HarT1, #HqT1, #HvT1, HtsT1, HtrT1⟩, ⟨HasT2, HarT2, #HqT2, #HvT2, HtsT2, HtrT2⟩⟩
  icases HcF with ⟨⟨HasF0, HarF0, #HqF0, #HvF0, HtsF0, HtrF0⟩, ⟨HasF1, HarF1, #HqF1, #HvF1, HtsF1, HtrF1⟩, ⟨HasF2, HarF2, #HqF2, #HvF2, HtsF2, HtrF2⟩⟩
  -- the unit to the device before, with this device's first two slots of the forward direction
  unfold O₀
  iapply (Rounds.wp_signal 𝒱₀ ER (rs m) (c : Thread nD τ) none (dst := (nb false c : Thread nD τ)) (κ := K (nb false c, none)) (r := 0)
      (d := true) (by rw [duties_bar]; exact Finset.mem_univ _) ((amount_bar m (nb false c) 0 true).trans (by decide)) 0 (O₁ c) rfl)
    $$ [HO HtF HsT0 HsT1]
  · isplitr; · iapply (inv_at m K (nb false c) none); iexact HI
    isplitl [HO]; · iexact HO
    isplitl [HtF]; · iexact HtF
    isplitl [HsT0 HsT1]
    · rw [payload_bar]; unfold barPay give; rw [show nb true (nb false c) = c from nb_nb_not true c]
      isplitl [HsT0]
      · isplitl [HsT0]; · iexact HsT0
        iexact HvT0
      isplitl [HsT1]; · iexact HsT1
      iexact HvT1
    iexact HrF
  iintro HO
  -- the unit to the next device
  unfold O₁
  iapply (Rounds.wp_signal 𝒱₀ ER (rs m) (c : Thread nD τ) none (dst := (nb true c : Thread nD τ)) (κ := K (nb true c, none)) (r := 0)
      (d := false) (by rw [duties_bar]; exact Finset.mem_univ _) ((amount_bar m (nb true c) 0 false).trans (by decide)) 0 (owed c 0) rfl)
    $$ [HO HtT HsF0 HsF1]
  · isplitr; · iapply (inv_at m K (nb true c) none); iexact HI
    isplitl [HO]; · iexact HO
    isplitl [HtT]; · iexact HtT
    isplitl [HsF0 HsF1]
    · rw [payload_bar]; unfold barPay give; rw [show nb false (nb true c) = c from nb_nb_not false c]
      isplitl [HsF0]
      · isplitl [HsF0]; · iexact HsF0
        iexact HvF0
      isplitl [HsF1]; · iexact HsF1
      iexact HvF1
    iexact HrT
  iintro HO
  -- the wait for both neighbours' units
  iapply (Rounds.wp_wait_rest_token 𝒱₀ ER (rs m) (c : Thread nD τ) none (κ := K (c, none))
      (wpE_semWait_eq 𝒱₀ (c : Thread nD τ) none Set.univ) (Set.mem_univ _) 0 (O := owed c 0) (W := W) (R := 0) (m := 0) (T := ∅)
      (by rw [expect_bar]; decide)) $$ [HcB HO HaB]
  · isplitr; · iapply (inv_at m K c none); iexact HI
    isplitl [HcB]; · iexact HcB
    isplitl [HO]; · iexact HO
    isplitr; · iapply (mayWait_bar c 0); iexact Hlev
    iexact HaB
  iintro ⟨HO, HaB, -, Hpay⟩
  ihave Hp := (Entails.of_eq (rest_bar m c)) $$ Hpay
  unfold barPay
  icases Hp with ⟨⟨HgT0, HgT1⟩, HgF0, HgF1⟩
  imod (Rounds.cell_close ER (rs m) (Set.mem_univ (K (c, none))) (fun h => h) (R := 0 + 1) (duties_bar_later m c)) $$ [HaB] with HzB
  · isplitr; · iapply (inv_at m K c none); iexact HI
    iexact HaB
  rw [wp_ret]; imodintro
  isplitr; · ipureintro; rfl
  isplitr [HzB]; rotate_left
  · unfold kept
    isplitr; · iexact HI
    isplitr; · iexact Hlev
    iexact HzB
  unfold ready mid chan
  rw [carry_give (nb true c) true 0 (by decide), carry_give (nb false c) false 0 (by decide), carry_give (nb true c) true 1 (by decide), carry_give (nb false c) false 1 (by decide),
    left_emp c true 0 (by decide), left_emp c false 0 (by decide), left_emp c true 1 (by decide), left_emp c false 1 (by decide)]
  isplitr; · iexact HI
  isplitr; · iexact Hlev
  isplitl [Hx]; · iexact Hx
  isplitl [Hw]; · iexact Hw
  isplitl [Ho]; · iexact Ho
  isplitl [HbT HsT2 HgT0 HgT1 HasT0 HarT0 HtsT0 HtrT0 HkT0 HasT1 HarT1 HtsT1 HtrT1 HkT1 HasT2 HarT2 HtsT2 HtrT2 HkT2]
  · isplitl [HbT]; · iexact HbT
    isplitl [HsT2]; · iexact HsT2
    isplitl [HgT0]; · iexact HgT0
    isplitr; · iempintro
    isplitl [HgT1]; · iexact HgT1
    isplitr; · iempintro
    isplitr; · iexact HvT2
    isplitl [HasT0 HarT0 HtsT0 HtrT0 HkT0]
    · isplitl [HasT0]; · iexact HasT0
      isplitl [HarT0]; · iexact HarT0
      isplitr; · iexact HqT0
      isplitl [HtsT0]; · iexact HtsT0
      isplitl [HtrT0] <;> iassumption
    isplitl [HasT1 HarT1 HtsT1 HtrT1 HkT1]
    · isplitl [HasT1]; · iexact HasT1
      isplitl [HarT1]; · iexact HarT1
      isplitr; · iexact HqT1
      isplitl [HtsT1]; · iexact HtsT1
      isplitl [HtrT1] <;> iassumption
    isplitl [HasT2]; · iexact HasT2
    isplitl [HarT2]; · iexact HarT2
    isplitr; · iexact HqT2
    isplitl [HtsT2]; · iexact HtsT2
    isplitl [HtrT2] <;> iassumption
  isplitl [HbF HsF2 HgF0 HgF1 HasF0 HarF0 HtsF0 HtrF0 HkF0 HasF1 HarF1 HtsF1 HtrF1 HkF1 HasF2 HarF2 HtsF2 HtrF2 HkF2]
  · isplitl [HbF]; · iexact HbF
    isplitl [HsF2]; · iexact HsF2
    isplitl [HgF0]; · iexact HgF0
    isplitr; · iempintro
    isplitl [HgF1]; · iexact HgF1
    isplitr; · iempintro
    isplitr; · iexact HvF2
    isplitl [HasF0 HarF0 HtsF0 HtrF0 HkF0]
    · isplitl [HasF0]; · iexact HasF0
      isplitl [HarF0]; · iexact HarF0
      isplitr; · iexact HqF0
      isplitl [HtsF0]; · iexact HtsF0
      isplitl [HtrF0] <;> iassumption
    isplitl [HasF1 HarF1 HtsF1 HtrF1 HkF1]
    · isplitl [HasF1]; · iexact HasF1
      isplitl [HarF1]; · iexact HarF1
      isplitr; · iexact HqF1
      isplitl [HtsF1]; · iexact HtsF1
      isplitl [HtrF1] <;> iassumption
    isplitl [HasF2]; · iexact HasF2
    isplitl [HarF2]; · iexact HarF2
    isplitr; · iexact HqF2
    isplitl [HtsF2]; · iexact HtsF2
    isplitl [HtrF2] <;> iassumption
  unfold ow
  iexists _; iexact HO

/-- At a later grid point there is nothing to do first. -/
theorem part1_later {P : sProp 𝕄} (c : Dev nD) (i : grid0.Coords) (hi : ¬ k0_cond1 i = 1#1)
    (a1 : Memref sig .tc .vmem S4096x1024 .f32) (w1 : a1.IsWhole) (a2 : Memref sig .tc .vmem S1024x1024 .f32) (w2 : a2.IsWhole) (a3 : Memref sig .tc .vmem S1024x1024 .f32) (w3 : a3.IsWhole) :
    P ⊢ wp frame (wpE (defs₀ (F := F)) 𝒱₀ (c : Thread nD τ) none) Set.univ
      (k0_part1 i a1 w1 a2 w2 a3 w3 (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 cc0_scratch6 cc0_scratch7)
      (fun v => iprop(⌜v.1 = c⌝ ∗ P)) := by
  rw [k0_part1_eq_skeleton]; unfold k0_part1_skel
  simp only [Prog.lift, Prog.bind_op, Prog.bind_ret, Prog.pure_eq_ret, wp_deviceId, dif_neg hi]
  rw [wp_ret]
  iintro H
  imodintro
  isplitr; · ipureintro; rfl
  iexact H

/-! ## The end -/

/-- A hop's two semaphores, all their rounds over, are at zero. -/
theorem chan_close (K : Dev nD × Cid → ℕ) (d : Bool) (h : Fin 3) (c : Dev nD) :
    iprop(invs m K ∗ chan d h c 8) ⊢ |={Set.univ}=> iprop(semVal (sCell d h c) 0 ∗ semVal (rCell d h c) 0) := by
  unfold chan
  rw [show toks (F := F) (sCell d h c) 8 = iprop(emp) from by unfold toks; rw [Finset.Ico_self]; exact BI.bigSep_empty,
    show toks (F := F) (rCell d h (nb d c)) 8 = iprop(emp) from by unfold toks; rw [Finset.Ico_self]; exact BI.bigSep_empty,
    show creds (F := F) d h c 8 = iprop(emp) from by unfold creds; rw [Finset.Ico_self]; exact BI.bigSep_empty]
  iintro ⟨#HI, HaS, HaR, -, -, -, -⟩
  imod (Rounds.cell_close ER (rs m) (Set.mem_univ (K (c, some (sIx d h)))) (fun h => h) (R := 8) (duties_os_later m c _)) $$ [HaS] with HzS
  · isplitr; · iapply (inv_s m K d h c); iexact HI
    iexact HaS
  imod (Rounds.cell_close ER (rs m) (Set.mem_univ (K (c, some (rIx d h)))) (fun h => h) (R := 8) (duties_os_later m c _)) $$ [HaR] with HzR
  · isplitr; · iapply (inv_r m K d h c); iexact HI
    iexact HaR
  imodintro
  isplitl [HzS] <;> iassumption

end Cert.KernelIdeal.Rs

end
-- ==== Proof.KernelIdeal.Point.lean ====
/-
# What holds between grid points

The buffers and tokens a device has before the first grid point, between two of them, and after the last; and the
pipeline's obligation on the body.
-/
module

public import proofs.«01_k».proof.Proof.KernelIdeal.Body

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- What the launch gives device `c`, its buffers apart. -/
def start (c : Dev nD) : sProp 𝕄 :=
  iprop((∃ K, ghost m K c) ∗ levAts L lv ∗ cred (tallyAt (barCell c) 0 2) ∗ creds0 true c ∗ creds0 false c)
def phi0 (c : Dev nD) : sProp 𝕄 := iprop(start m c ∗ bufs true c ∗ bufs false c)
/-- Between grid points. -/
def phiMid (c : Dev nD) (t : ℕ) : sProp 𝕄 := iprop(mid true c t ∗ mid false c t ∗ ∃ K, kept m K c)
/-- Direction `d`'s semaphores at zero. -/
def zeros (d : Bool) (c : Dev nD) : sProp 𝕄 :=
  iprop((semVal (sCell d 0 c) 0 ∗ semVal (sCell d 1 c) 0 ∗ semVal (sCell d 2 c) 0) ∗ (semVal (rCell d 0 c) 0 ∗ semVal (rCell d 1 c) 0 ∗ semVal (rCell d 2 c) 0))
/-- After the last: the buffers, and every semaphore at zero. -/
def phiEnd (c : Dev nD) : sProp 𝕄 := iprop(bufs true c ∗ bufs false c ∗ zeros true c ∗ zeros false c ∗ semVal (barCell c) 0)

def phi (c : Dev nD) (t : ℕ) : sProp 𝕄 := if t = 0 then phi0 m c else if t < 8 then phiMid m c t else phiEnd c
def owedAt (c : Dev nD) (t : ℕ) : CellTallies nD τ sig ℕ := if t = 0 then O₀ c else owed c (6 * t)

def dats (_ : Fin 1) (c : Dev nD) : Dat τ (Elt F) ℕ ℕ UU ℕ cfg0 c where
  A w := (s₀ m ρ).mem ((cfg0.win w).arr.view.loc (c : Thread nD τ))
  after w t := match w with
    | ⟨0, _⟩ => xblk m c
    | ⟨1, _⟩ => wblk m t.val c
    | ⟨2, _⟩ => outv m t.val c
  Φ t := phi m c t.val
  q _ := fullShare
  owed t := owedAt c t.val

/-- The block of `x` is the same at every point. -/
theorem xblk_eq (c : Dev nD) (t : Fin cfg0.N) : ((cfg0.win (0 : Fin 3)).blk t).view.read (Elt F) (m ((c : Thread nD τ).loc main_arg0)) = xblk m c := rfl
theorem wblk_eq (c : Dev nD) (t : Fin cfg0.N) : ((cfg0.win (1 : Fin 3)).blk t).view.read (Elt F) (m ((c : Thread nD τ).loc main_arg1)) = wblk m t.val c := by
  unfold wblk; rw [pt_val]

/-- The staged block of `x`. -/
theorem before_x (c : Dev nD) (t : Fin cfg0.N) (d) : (dats m ρ 0 c).before (0 : Fin 3) t d = xblk m c :=
  ((dats m ρ 0 c).before_in_eq_fetched (0 : Fin 3) rfl (fun _ => rfl) (fun _ _ _ => rfl) (fun t => (xblk_eq m c t).symm) t d).trans (xblk_eq m c t)
/-- The staged block of `w`. -/
theorem before_w (c : Dev nD) (t : Fin cfg0.N) (d) : (dats m ρ 0 c).before (1 : Fin 3) t d = wblk m t.val c :=
  ((dats m ρ 0 c).before_in_eq_fetched (1 : Fin 3) rfl (fun _ => rfl) (fun _ _ _ => rfl) (fun t => (wblk_eq m c t).symm) t d).trans (wblk_eq m c t)

/-- The handshake is the first point's. -/
theorem cond_first : k0_cond1 (grid0.coords t0_0) = 1#1 := by decide
theorem cond_later (t : Fin cfg0.N) (h : t.val ≠ 0) : ¬ k0_cond1 (grid0.coords t) = 1#1 := by
  rcases fin_N0 t with rfl | rfl | rfl | rfl | rfl | rfl | rfl | rfl
  · exact absurd rfl h
  all_goals decide

/-- What the body leaves, as what holds before the next point. -/
theorem phi_next (K : Dev nD × Cid → ℕ) (c : Dev nD) (t : ℕ) (ht : t < 8) :
    iprop(mid true c (t + 1) ∗ mid false c (t + 1) ∗ kept m K c) ⊢ |={Set.univ}=> phi m c (t + 1) := by
  unfold phi
  rw [if_neg (Nat.succ_ne_zero t)]
  by_cases h : t + 1 < 8
  · rw [if_pos h]; unfold phiMid
    iintro ⟨H1, H2, H3⟩
    imodintro
    isplitl [H1]; · iexact H1
    isplitl [H2]; · iexact H2
    iexists K; iexact H3
  · rw [if_neg h]
    obtain rfl : t = 7 := by omega
    unfold mid kept phiEnd bufs zeros left
    simp only [if_neg (by decide : ¬ (7 + 1 < 8))]
    iintro ⟨⟨HbT, HsT2, -, HsT0, -, HsT1, -, Hc0, Hc1, Hc2⟩, ⟨HbF, HsF2, -, HsF0, -, HsF1, -, Hd0, Hd1, Hd2⟩, #HI, -, HzB⟩
    imod (chan_close m K true 0 c) $$ [Hc0] with ⟨Ha0, Hb0⟩
    · isplitr; · iexact HI
      iexact Hc0
    imod (chan_close m K true 1 c) $$ [Hc1] with ⟨Ha1, Hb1⟩
    · isplitr; · iexact HI
      iexact Hc1
    imod (chan_close m K true 2 c) $$ [Hc2] with ⟨Ha2, Hb2⟩
    · isplitr; · iexact HI
      iexact Hc2
    imod (chan_close m K false 0 c) $$ [Hd0] with ⟨He0, Hf0⟩
    · isplitr; · iexact HI
      iexact Hd0
    imod (chan_close m K false 1 c) $$ [Hd1] with ⟨He1, Hf1⟩
    · isplitr; · iexact HI
      iexact Hd1
    imod (chan_close m K false 2 c) $$ [Hd2] with ⟨He2, Hf2⟩
    · isplitr; · iexact HI
      iexact Hd2
    imodintro
    isplitl [HbT HsT0 HsT1 HsT2]
    · isplitl [HbT]; · iexact HbT
      isplitl [HsT0]; · iexact HsT0
      isplitl [HsT1] <;> iassumption
    isplitl [HbF HsF0 HsF1 HsF2]
    · isplitl [HbF]; · iexact HbF
      isplitl [HsF0]; · iexact HsF0
      isplitl [HsF1] <;> iassumption
    isplitl [Ha0 Ha1 Ha2 Hb0 Hb1 Hb2]
    · isplitl [Ha0 Ha1 Ha2]
      · isplitl [Ha0]; · iexact Ha0
        isplitl [Ha1] <;> iassumption
      isplitl [Hb0]; · iexact Hb0
      isplitl [Hb1] <;> iassumption
    isplitl [He0 He1 He2 Hf0 Hf1 Hf2]
    · isplitl [He0 He1 He2]
      · isplitl [He0]; · iexact He0
        isplitl [He1] <;> iassumption
      isplitl [Hf0]; · iexact Hf0
      isplitl [Hf1] <;> iassumption
    iexact HzB

/-- The body at point `t`, from what holds before it to what holds after. -/
theorem point (c : Dev nD) (t : Fin cfg0.N) (a1 : Memref sig .tc .vmem S4096x1024 .f32) (w1 : a1.IsWhole) (a2 : Memref sig .tc .vmem S1024x1024 .f32) (w2 : a2.IsWhole)
    (a3 : Memref sig .tc .vmem S1024x1024 .f32) (w3 : a3.IsWhole) :
    iprop(phi m c t.val ∗ ow c (owedAt c t.val) ∗ own c a1 (xblk m c) ∗ own c a2 (wblk m t.val c) ∗ ownAny c a3)
      ⊢ wp frame (wpE (defs₀ (F := F)) 𝒱₀ (c : Thread nD τ) none) Set.univ
      (cc0_body (grid0.coords t) a1 w1 a2 w2 a3 w3 (Memref.whole cc0_scratch0) (Memref.isWhole_whole _) (Memref.whole cc0_scratch1) (Memref.isWhole_whole _)
        (Memref.whole cc0_scratch2) (Memref.isWhole_whole _) (Memref.whole cc0_scratch3) (Memref.isWhole_whole _) cc0_scratch4 cc0_scratch5 cc0_scratch6 cc0_scratch7)
      (fun _ => iprop(phi m c (t.val + 1) ∗ ow c (owedAt c (t.val + 1)) ∗ own c a1 (xblk m c) ∗ own c a2 (wblk m t.val c) ∗ own c a3 (outv m t.val c))) := by
  have ht : t.val < 8 := by have h := t.isLt; have : cfg0.N = 8 := N_0; omega
  have post (K : Dev nD × Cid → ℕ) : iprop(over m c t.val a1 a2 a3 ∗ kept m K c)
      ⊢ |={Set.univ}=> iprop(phi m c (t.val + 1) ∗ ow c (owedAt c (t.val + 1)) ∗ own c a1 (xblk m c) ∗ own c a2 (wblk m t.val c) ∗ own c a3 (outv m t.val c)) := by
    unfold over
    iintro ⟨⟨H1, H2, H3, HT, HF, HO⟩, Hk⟩
    imod (phi_next m K c t.val ht) $$ [HT HF Hk] with HP
    · isplitl [HT]; · iexact HT
      isplitl [HF] <;> iassumption
    imodintro
    isplitl [HP]; · iexact HP
    isplitl [HO]; · unfold owedAt; rw [if_neg (Nat.succ_ne_zero _)]; iexact HO
    isplitl [H1]; · iexact H1
    isplitl [H2] <;> iassumption
  by_cases h0 : t.val = 0
  · obtain rfl : t = t0_0 := Fin.ext h0
    have e0 : t0_0.val = 0 := rfl
    unfold phi phi0 start owedAt
    rw [if_pos e0, if_pos e0, e0]
    iintro ⟨⟨⟨⟨%K, Hg⟩, Hlev, HcB, HkT, HkF⟩, HbT, HbF⟩, HO, H1, H2, H3⟩
    iapply ((body_of m K c 0 (by decide) (grid0.coords t0_0) a1 w1 a2 w2 a3 w3 (part1_first m K c _ cond_first a1 w1 a2 w2 a3 w3)).trans
      ((wp_mono _ _ _ fun _ => post K).trans (wp_fupd frame _ _ _ _)))
    isplitl [Hg Hlev HcB HkT HkF HbT HbF]
    · isplitl [Hg]; · iexact Hg
      isplitl [Hlev]; · iexact Hlev
      isplitl [HcB]; · iexact HcB
      isplitl [HkT]; · iexact HkT
      isplitl [HkF]; · iexact HkF
      isplitl [HbT] <;> iassumption
    isplitl [H1]; · iexact H1
    isplitl [H2]; · iexact H2
    isplitl [H3] <;> iassumption
  · have e : phi m c t.val = phiMid m c t.val := by unfold phi; rw [if_neg h0, if_pos ht]
    have e' : owedAt c t.val = owed c (6 * t.val) := by unfold owedAt; rw [if_neg h0]
    rw [e, e']
    unfold phiMid kept
    iintro ⟨⟨HT, HF, ⟨%K, #HI, #Hlev, HzB⟩⟩, HO, H1, H2, H3⟩
    iapply ((body_of (R := kept m K c) m K c t.val ht (grid0.coords t) a1 w1 a2 w2 a3 w3 (part1_later c _ (cond_later t h0) a1 w1 a2 w2 a3 w3)).trans
      ((wp_mono _ _ _ fun _ => post K).trans (wp_fupd frame _ _ _ _)))
    unfold ready kept
    isplitr [HzB]
    · isplitr; · iexact HI
      isplitr; · iexact Hlev
      isplitl [H1]; · iexact H1
      isplitl [H2]; · iexact H2
      isplitl [H3]; · iexact H3
      isplitl [HT]; · iexact HT
      isplitl [HF] <;> iassumption
    isplitr; · iexact HI
    isplitr; · iexact Hlev
    iexact HzB

/-- The pipeline's obligation on the body. -/
theorem body_obligation (c : Dev nD) : BodyObligation (dats (F := F) m ρ 0 c) (defs₀ (F := F)) 𝒱₀ 0 Set.univ := fun t => by
  have bw (Φ : Fin cfg0.W → sProp 𝕄) : bigSep Finset.univ Φ = iprop(Φ (0 : Fin 3) ∗ Φ (1 : Fin 3) ∗ Φ (2 : Fin 3)) := bigSep_W0 Φ
  rw [bw, bw]
  show iprop(phi m c t.val ∗ (dats m ρ 0 c).owesAt 0 t.castSucc ∗ (∃ d, own c (st0_0 t) ((dats m ρ 0 c).before (0 : Fin 3) t d))
      ∗ (∃ d, own c (st0_1 t) ((dats m ρ 0 c).before (1 : Fin 3) t d)) ∗ (∃ d, own c (st0_2 t) ((dats m ρ 0 c).before (2 : Fin 3) t d)))
    ⊢ wp frame (wpE (defs₀ (F := F)) 𝒱₀ (c : Thread nD τ) none) Set.univ (bodyAt0 t)
      (fun _ => iprop(phi m c (t.val + 1) ∗ (dats m ρ 0 c).owesAt 0 t.succ ∗ own c (st0_0 t) (xblk m c) ∗ own c (st0_1 t) (wblk m t.val c) ∗ own c (st0_2 t) (outv m t.val c)))
  refine BIBase.Entails.trans ?_ ((point m c t _ (hstage0_0 ((cfg0.slots t 0).cast nbuf0_0)) _ (hstage0_1 ((cfg0.slots t 1).cast nbuf0_1)) _ (hstage0_2 ((cfg0.slots t 2).cast nbuf0_2))).trans
    (wp_mono _ _ _ fun _ => ?_))
  · iintro ⟨HP, HO, ⟨%d1, H1⟩, ⟨%d2, H2⟩, ⟨%d3, H3⟩⟩
    rw [before_x, before_w]
    isplitl [HP]; · iexact HP
    isplitl [HO]
    · unfold Dat.owesAt Pipeline.owesWithin
      icases HO with ⟨%W, -, HO⟩
      unfold ow
      iexists W; iexact HO
    isplitl [H1]; · iexact H1
    isplitl [H2]; · iexact H2
    unfold ownAny
    iexists _; iexact H3
  · iintro ⟨HP, HO, H1, H2, H3⟩
    isplitl [HP]; · iexact HP
    isplitl [HO]
    · unfold ow
      icases HO with ⟨%W, HO⟩
      unfold Dat.owesAt Pipeline.owesWithin
      iexists W
      isplitr; · ipureintro; exact fun _ _ => Or.inl trivial
      iexact HO
    isplitl [H1]; · iexact H1
    isplitl [H2]; · iexact H2
    iexact H3

end Cert.KernelIdeal.Rs

end
-- ==== Proof.KernelIdeal.Deal.lean ====
/-
# What the launch deals out

The buffers cut into slots and joined again, the duty tokens and credits of every round, and the cells they belong to.
-/
module

public import proofs.«01_k».proof.Proof.KernelIdeal.Point

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The buffers -/

/-- Owning a memref at any contents is its elements at any contents. -/
theorem ownAny_eq {s : Shape} {e : EltTy} (c : Dev nD) (b : Memref sig .tc .vmem s e) :
    (ownAny (F := F) c b) = iprop(∃ f : Buf (Elt F) (b.view.loc (c : Thread nD τ)), b.view.loc (c : Thread nD τ) ↦[b.view.set]{fullShare} f) := by
  have h1 : (ownAny (F := F) c b) ⊢ iprop(∃ f : Buf (Elt F) (b.view.loc (c : Thread nD τ)), b.view.loc (c : Thread nD τ) ↦[b.view.set]{fullShare} f) := by
    unfold ownAny own owns; iintro ⟨%X, %f, -, H⟩; iexists f; iexact H
  have h2 : iprop(∃ f : Buf (Elt F) (b.view.loc (c : Thread nD τ)), b.view.loc (c : Thread nD τ) ↦[b.view.set]{fullShare} f) ⊢ (ownAny (F := F) c b) := by
    unfold ownAny own owns; iintro ⟨%f, H⟩; iexists _, f; isplitr
    · ipureintro; rfl
    iexact H
  exact BI.equiv_iff.mp ⟨h1, h2⟩

theorem slots_disjoint : ∀ h ∈ (Finset.univ : Finset (Fin 3)), ∀ h' ∈ (Finset.univ : Finset (Fin 3)), h ≠ h' → Disjoint (slotR h).set (slotR h').set :=
  fun h _ h' _ hh => Rect.disjoint_of_separated _ _ 0 (by
    simp only [Rect.off_unit, Rect.size_unit, Rect.stride_unit, Nat.one_mul]
    revert h h'; decide)
theorem slots_cover : (Finset.univ : Finset (Fin 3)).biUnion (fun h => (slotR h).set) = Finset.univ := by
  refine Finset.eq_univ_iff_forall.mpr fun j => Finset.mem_biUnion.mpr ⟨⟨(j 0).val, (j 0).isLt⟩, Finset.mem_univ _, Rect.mem_set_unit.mpr fun a => ?_⟩
  have h1 := (j 1).isLt
  have h2 := (j 2).isLt
  fin_cases a
  · exact ⟨Nat.le_refl _, Nat.lt_succ_self _⟩
  · exact ⟨Nat.zero_le _, by simpa using h1⟩
  · exact ⟨Nat.zero_le _, by simpa using h2⟩

theorem slot_set_t (h : Fin 3) : (slotM true h).view.set = (slotR h).set := by
  show (((View.whole (cc0_scratch2 : Ref sig .tc)).slice (slotR h)).reshape S1024x512 _).set = _
  rw [View.set_reshape, View.set_slice]; exact Finset.map_refl
theorem slot_set_f (h : Fin 3) : (slotM false h).view.set = (slotR h).set := by
  show (((View.whole (cc0_scratch3 : Ref sig .tc)).slice (slotR h)).reshape S1024x512 _).set = _
  rw [View.set_reshape, View.set_slice]; exact Finset.map_refl

theorem bigSep_fin3 (Φ : Fin 3 → sProp 𝕄) : bigSep Finset.univ Φ = iprop(Φ 0 ∗ Φ 1 ∗ Φ 2) := bigSep_univ_eq_bigSepL [0, 1, 2] (by decide) (by decide) Φ

theorem slot_own_t (c : Dev nD) (h : Fin 3) :
    (ownAny (F := F) c (slotM true h)) = iprop(∃ f : Buf (Elt F) ((c : Thread nD τ).loc cc0_scratch2), ((c : Thread nD τ).loc cc0_scratch2) ↦[(slotR h).set]{fullShare} f) := by
  rw [ownAny_eq, slot_set_t]
/-- Direction `true`'s two buffers whole, the second cut into its slots and joined. -/
theorem bufs_t_intro (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch2), ((c : Thread nD τ).loc cc0_scratch2) ↦{fullShare} f)) ⊢ (bufs (F := F) true c) := by
  unfold bufs
  rw [slot_own_t, slot_own_t, slot_own_t]
  iintro ⟨⟨%f, H⟩, ⟨%g, Hg⟩⟩
  isplitl [H]
  · rw [ownAny_eq]; iexists f; rw [show (sendM true).view.set = Finset.univ from View.set_whole _]; iexact H
  have e : (((c : Thread nD τ).loc cc0_scratch2) ↦{fullShare} g : sProp 𝕄) = bigSep Finset.univ fun h : Fin 3 => ((c : Thread nD τ).loc cc0_scratch2) ↦[(slotR h).set]{fullShare} g := by
    rw [← pointsTo_biUnion Finset.univ (ℓ := (c : Thread nD τ).loc cc0_scratch2) (fun h => (slotR h).set) slots_disjoint, slots_cover]
  ihave Hs := (Entails.of_eq (e.trans (bigSep_fin3 _))) $$ Hg
  icases Hs with ⟨H0, H1, H2⟩
  isplitl [H0]; · iexists g; iexact H0
  isplitl [H1]; · iexists g; iexact H1
  iexists g; iexact H2
theorem bufs_t_elim (c : Dev nD) :
    (bufs (F := F) true c) ⊢ iprop((∃ f : Buf (Elt F) ((c : Thread nD τ).loc cc0_scratch0), ((c : Thread nD τ).loc cc0_scratch0) ↦{fullShare} f)
      ∗ (∃ f : Buf (Elt F) ((c : Thread nD τ).loc cc0_scratch2), ((c : Thread nD τ).loc cc0_scratch2) ↦{fullShare} f)) := by
  unfold bufs
  rw [slot_own_t, slot_own_t, slot_own_t, ownAny_eq, show (sendM true).view.set = Finset.univ from View.set_whole _]
  iintro ⟨⟨%f, H⟩, ⟨%g0, H0⟩, ⟨%g1, H1⟩, ⟨%g2, H2⟩⟩
  isplitl [H]; · iexists f; iexact H
  ihave Hs := (Entails.of_eq (bigSep_fin3 (fun h : Fin 3 => (((c : Thread nD τ).loc cc0_scratch2) ↦[(slotR h).set]{fullShare} (![g0, g1, g2] h) : sProp 𝕄))).symm) $$ [H0 H1 H2]
  · isplitl [H0]; · iexact H0
    isplitl [H1]; · iexact H1
    iexact H2
  ihave Hj := (pointsTo_biUnion_join Finset.univ (fun h : Fin 3 => (slotR h).set) ![g0, g1, g2] g0 slots_disjoint) $$ Hs
  icases Hj with ⟨%g, -, Hj⟩
  rw [slots_cover]
  iexists g; iexact Hj

theorem slot_own_f (c : Dev nD) (h : Fin 3) :
    (ownAny (F := F) c (slotM false h)) = iprop(∃ f : Buf (Elt F) ((c : Thread nD τ).loc cc0_scratch3), ((c : Thread nD τ).loc cc0_scratch3) ↦[(slotR h).set]{fullShare} f) := by
  rw [ownAny_eq, slot_set_f]
/-- Direction `false`'s two buffers whole, the second cut into its slots and joined. -/
theorem bufs_f_intro (c : Dev nD) :
    iprop((∃ f : Buf (Elt F) ((c : Thread nD τ).loc cc0_scratch1), ((c : Thread nD τ).loc cc0_scratch1) ↦{fullShare} f)
      ∗ (∃ f : Buf (Elt F) ((c : Thread nD τ).loc cc0_scratch3), ((c : Thread nD τ).loc cc0_scratch3) ↦{fullShare} f)) ⊢ (bufs (F := F) false c) := by
  unfold bufs
  rw [slot_own_f, slot_own_f, slot_own_f]
  iintro ⟨⟨%f, H⟩, ⟨%g, Hg⟩⟩
  isplitl [H]
  · rw [ownAny_eq]; iexists f; rw [show (sendM false).view.set = Finset.univ from View.set_whole _]; iexact H
  have e : (((c : Thread nD τ).loc cc0_scratch3) ↦{fullShare} g : sProp 𝕄) = bigSep Finset.univ fun h : Fin 3 => ((c : Thread nD τ).loc cc0_scratch3) ↦[(slotR h).set]{fullShare} g := by
    rw [← pointsTo_biUnion Finset.univ (ℓ := (c : Thread nD τ).loc cc0_scratch3) (fun h => (slotR h).set) slots_disjoint, slots_cover]
  ihave Hs := (Entails.of_eq (e.trans (bigSep_fin3 _))) $$ Hg
  icases Hs with ⟨H0, H1, H2⟩
  isplitl [H0]; · iexists g; iexact H0
  isplitl [H1]; · iexists g; iexact H1
  iexists g; iexact H2
theorem bufs_f_elim (c : Dev nD) :
    (bufs (F := F) false c) ⊢ iprop((∃ f : Buf (Elt F) ((c : Thread nD τ).loc cc0_scratch1), ((c : Thread nD τ).loc cc0_scratch1) ↦{fullShare} f)
      ∗ (∃ f : Buf (Elt F) ((c : Thread nD τ).loc cc0_scratch3), ((c : Thread nD τ).loc cc0_scratch3) ↦{fullShare} f)) := by
  unfold bufs
  rw [slot_own_f, slot_own_f, slot_own_f, ownAny_eq, show (sendM false).view.set = Finset.univ from View.set_whole _]
  iintro ⟨⟨%f, H⟩, ⟨%g0, H0⟩, ⟨%g1, H1⟩, ⟨%g2, H2⟩⟩
  isplitl [H]; · iexists f; iexact H
  ihave Hs := (Entails.of_eq (bigSep_fin3 (fun h : Fin 3 => (((c : Thread nD τ).loc cc0_scratch3) ↦[(slotR h).set]{fullShare} (![g0, g1, g2] h) : sProp 𝕄))).symm) $$ [H0 H1 H2]
  · isplitl [H0]; · iexact H0
    isplitl [H1]; · iexact H1
    iexact H2
  ihave Hj := (pointsTo_biUnion_join Finset.univ (fun h : Fin 3 => (slotR h).set) ![g0, g1, g2] g0 slots_disjoint) $$ Hs
  icases Hj with ⟨%g, -, Hj⟩
  rw [slots_cover]
  iexists g; iexact Hj

/-! ## The cells -/

abbrev osem : Fin 12 → SemLoc sig := fun k => .dma (os k)

theorem kcell_injective : Function.Injective (kcell : Dev nD × Cid → GSem nD τ sig) := by
  rintro ⟨c, k⟩ ⟨c', k'⟩ h
  have h1 : c = c' := congrArg (fun g : GSem nD τ sig => g.1.1) h
  subst h1
  have h2 : csem k = csem k' := congrArg Prod.snd h
  rcases k with _ | k <;> rcases k' with _ | k'
  · rfl
  · exact absurd h2 (fun h => by cases h)
  · exact absurd h2 (fun h => by cases h)
  · have h3 : (os k).val = (os k').val := by
      have := SemLoc.dma.inj h2; exact congrArg Fin.val this
    have h4 : k = k' := Fin.ext (Nat.add_left_cancel h3)
    rw [h4]
def cells : Finset (GSem nD τ sig) := Finset.univ.map ⟨kcell, kcell_injective⟩

/-- The duties, a device's own: its barrier's two, and one a round of each copy cell. -/
abbrev Tid : Type := Bool ⊕ (Fin 12 × Fin 8)
abbrev tokOf (cj : Dev nD × Tid) : GSem nD τ sig × ℕ × Bool :=
  match cj.2 with | .inl b => (kcell (cj.1, none), 0, b) | .inr kr => (kcell (cj.1, some kr.1), kr.2.val, false)
theorem tokOf_injective : Function.Injective (tokOf : Dev nD × Tid → GSem nD τ sig × ℕ × Bool) := by
  rintro ⟨c, j⟩ ⟨c', j'⟩ h
  have hk := congrArg Prod.fst h
  have hr := congrArg (fun x : GSem nD τ sig × ℕ × Bool => x.2) h
  rcases j with b | ⟨k, r⟩ <;> rcases j' with b' | ⟨k', r'⟩
  · have h1 := kcell_injective hk
    have h2 : c = c' := congrArg Prod.fst h1
    have h3 : b = b' := congrArg Prod.snd hr
    rw [h2, h3]
  · exact absurd (congrArg Prod.snd (kcell_injective hk)) (fun h => by cases h)
  · exact absurd (congrArg Prod.snd (kcell_injective hk)) (fun h => by cases h)
  · have h1 := kcell_injective hk
    have h2 : c = c' := congrArg Prod.fst h1
    have h3 : k = k' := Option.some.inj (congrArg Prod.snd h1)
    have h4 : r = r' := Fin.ext (congrArg Prod.fst hr)
    rw [h2, h3, h4]
def tokSet : Finset (GSem nD τ sig × ℕ × Bool) := Finset.univ.map ⟨tokOf, tokOf_injective⟩

theorem bigSep_cid (Φ : Cid → sProp 𝕄) : bigSep Finset.univ Φ = iprop(Φ none ∗ Φ (some (sIx true 0)) ∗ Φ (some (sIx true 1)) ∗ Φ (some (sIx true 2)) ∗ Φ (some (sIx false 0)) ∗ Φ (some (sIx false 1)) ∗ Φ (some (sIx false 2)) ∗ Φ (some (rIx true 0)) ∗ Φ (some (rIx true 1)) ∗ Φ (some (rIx true 2)) ∗ Φ (some (rIx false 0)) ∗ Φ (some (rIx false 1)) ∗ Φ (some (rIx false 2))) :=
  bigSep_univ_eq_bigSepL [none, some (sIx true 0), some (sIx true 1), some (sIx true 2), some (sIx false 0), some (sIx false 1), some (sIx false 2), some (rIx true 0), some (rIx true 1), some (rIx true 2), some (rIx false 0), some (rIx false 1), some (rIx false 2)] (by decide) (by decide) Φ
theorem bigSep_fin12 (Φ : Fin 12 → sProp 𝕄) : bigSep Finset.univ Φ = iprop(Φ (sIx true 0) ∗ Φ (sIx true 1) ∗ Φ (sIx true 2) ∗ Φ (sIx false 0) ∗ Φ (sIx false 1) ∗ Φ (sIx false 2) ∗ Φ (rIx true 0) ∗ Φ (rIx true 1) ∗ Φ (rIx true 2) ∗ Φ (rIx false 0) ∗ Φ (rIx false 1) ∗ Φ (rIx false 2)) :=
  bigSep_univ_eq_bigSepL [sIx true 0, sIx true 1, sIx true 2, sIx false 0, sIx false 1, sIx false 2, rIx true 0, rIx true 1, rIx true 2, rIx false 0, rIx false 1, rIx false 2] (by decide) (by decide) Φ
theorem bigSep_bool (Φ : Bool → sProp 𝕄) : bigSep Finset.univ Φ = iprop(Φ true ∗ Φ false) := bigSep_univ_eq_bigSepL [true, false] (by decide) (by decide) Φ

theorem rounds_eq : Finset.Ico 0 8 = (Finset.univ : Finset (Fin 8)).map Fin.valEmbedding := by decide
theorem bigSep_rounds (Φ : ℕ → sProp 𝕄) : bigSep (Finset.Ico 0 8) Φ = bigSep Finset.univ fun r : Fin 8 => Φ r.val := by
  rw [rounds_eq, bigSep_map]; rfl

/-- The tokens of a device's own cells. -/
def ownToks (c : Dev nD) : sProp 𝕄 := iprop((dutyTok ER (barCell c) 0 true ∗ dutyTok ER (barCell c) 0 false) ∗ toks (F := F) (sCell true 0 c) 0 ∗ toks (F := F) (sCell true 1 c) 0 ∗ toks (F := F) (sCell true 2 c) 0 ∗ toks (F := F) (sCell false 0 c) 0 ∗ toks (F := F) (sCell false 1 c) 0 ∗ toks (F := F) (sCell false 2 c) 0 ∗ toks (F := F) (rCell true 0 c) 0 ∗ toks (F := F) (rCell true 1 c) 0 ∗ toks (F := F) (rCell true 2 c) 0 ∗ toks (F := F) (rCell false 0 c) 0 ∗ toks (F := F) (rCell false 1 c) 0 ∗ toks (F := F) (rCell false 2 c) 0)
/-- The tokens of the duties a device pays. -/
def payToks (c : Dev nD) : sProp 𝕄 := iprop((dutyTok ER (barCell (nb false c)) 0 true ∗ dutyTok ER (barCell (nb true c)) 0 false) ∗ toks (F := F) (sCell true 0 c) 0 ∗ toks (F := F) (sCell true 1 c) 0 ∗ toks (F := F) (sCell true 2 c) 0 ∗ toks (F := F) (sCell false 0 c) 0 ∗ toks (F := F) (sCell false 1 c) 0 ∗ toks (F := F) (sCell false 2 c) 0 ∗ toks (F := F) (rCell true 0 (nb true c)) 0 ∗ toks (F := F) (rCell true 1 (nb true c)) 0 ∗ toks (F := F) (rCell true 2 (nb true c)) 0 ∗ toks (F := F) (rCell false 0 (nb false c)) 0 ∗ toks (F := F) (rCell false 1 (nb false c)) 0 ∗ toks (F := F) (rCell false 2 (nb false c)) 0)

theorem ownToks_eq (c : Dev nD) : (bigSep Finset.univ fun j : Tid => (dutyTok ER (tokOf (c, j)).1 (tokOf (c, j)).2.1 (tokOf (c, j)).2.2 : sProp 𝕄)) = ownToks c := by
  rw [bigSep_univ_sum, bigSep_univ_prod, bigSep_bool, bigSep_fin12]
  unfold ownToks toks
  simp only [bigSep_rounds]
  rfl

theorem around (d h) : (bigSep Finset.univ fun c : Dev nD => (toks (rCell d h c) 0 : sProp 𝕄)) = bigSep Finset.univ fun c : Dev nD => toks (rCell d h (nb d c)) 0 :=
  bigSep_univ_equiv (turn d) (fun c : Dev nD => (toks (rCell d h c) 0 : sProp 𝕄))
theorem around_bar (d e : Bool) : (bigSep Finset.univ fun c : Dev nD => (dutyTok ER (barCell c) 0 e : sProp 𝕄)) = bigSep Finset.univ fun c : Dev nD => dutyTok ER (barCell (nb d c)) 0 e :=
  bigSep_univ_equiv (turn d) (fun c : Dev nD => (dutyTok ER (barCell c) 0 e : sProp 𝕄))
/-- Each token dealt to the device that pays with it. -/
theorem toks_around : (bigSep Finset.univ fun c : Dev nD => (ownToks c : sProp 𝕄)) = bigSep Finset.univ fun c : Dev nD => payToks c := by
  unfold ownToks payToks
  simp only [bigSep_sep']
  rw [around_bar false true, around_bar true false, around true 0, around true 1, around true 2, around false 0, around false 1, around false 2]

/-! ## The credits -/

theorem copies_eq : Finset.Ico 0 48 = (Finset.univ : Finset (Bool × Fin 3 × Fin 8)).map
    ⟨fun x => jOf x.2.2.val x.2.1 x.1, fun x y h => by
      have h' : jOf x.2.2.val x.2.1 x.1 = jOf y.2.2.val y.2.1 y.1 := h
      have h1 := congrArg rOf h'; have h2 := congrArg hOf h'; have h3 := congrArg dOf h'
      rw [rOf_jOf, rOf_jOf] at h1; rw [hOf_jOf, hOf_jOf] at h2; rw [dOf_jOf, dOf_jOf] at h3
      exact Prod.ext h3 (Prod.ext h2 (Fin.ext h1))⟩ := by
  ext j
  simp only [Finset.mem_Ico, Finset.mem_map, Finset.mem_univ, true_and, Function.Embedding.coeFn_mk]
  constructor
  · intro hj
    refine ⟨(dOf j, hOf j, ⟨j / 6, by omega⟩), ?_⟩
    show 6 * (j / 6) + 2 * (j % 6 / 2) + (if decide (j % 2 = 0) = true then 0 else 1) = j
    split <;> rename_i h <;> simp at h <;> omega
  · rintro ⟨⟨d, h, r⟩, rfl⟩
    have := h.isLt; have := r.isLt
    show 0 ≤ 6 * r.val + 2 * h.val + (if d then 0 else 1) ∧ 6 * r.val + 2 * h.val + (if d then 0 else 1) < 48
    split <;> omega

theorem launch_copies (c : Dev nD) : (Pipeline.launchCred (fun d : Dev nD => owed d 0) c : sProp 𝕄) ⊢ iprop(creds0 true c ∗ creds0 false c) := by
  unfold owed
  rw [Pipeline.launchCred_sum (Finset.Ico 0 48) (fun j d => owe1 d j) c]
  refine (bigSep_mono (Ψ := fun j => cred (tallyAt (rCell (dOf j) (hOf j) c) (rOf j) N)) fun j _ =>
    Pipeline.launchCred_tallyAt (.dma (rS (dOf j) (hOf j))) (nb (dOf j)) (nb (!(dOf j))) (nb_nb_not _) (nb_not _) (rOf j) N c).trans ?_
  rw [copies_eq, bigSep_map]
  refine (Entails.of_eq (bigSep_congr (Ψ := fun x : Bool × Fin 3 × Fin 8 => cred (tallyAt (rCell x.1 x.2.1 c) x.2.2.val N)) fun x _ => ?_)).trans ?_
  · show cred (tallyAt (rCell (dOf (jOf x.2.2.val x.2.1 x.1)) (hOf (jOf x.2.2.val x.2.1 x.1)) c) (rOf (jOf x.2.2.val x.2.1 x.1)) N) = _
    rw [rOf_jOf, hOf_jOf, dOf_jOf]
  · rw [bigSep_univ_prod, bigSep_bool, bigSep_univ_prod, bigSep_univ_prod, bigSep_fin3, bigSep_fin3]
    unfold creds0 creds
    simp only [bigSep_rounds]
    exact .rfl

/-- The credits the launch grants device `c`. -/
theorem launch_creds (c : Dev nD) :
    (Pipeline.launchCred O₀ c : sProp 𝕄) ⊢ iprop(cred (tallyAt (barCell c) 0 2) ∗ creds0 true c ∗ creds0 false c) := by
  have e : (Pipeline.launchCred O₀ c : sProp 𝕄) = iprop((Pipeline.launchCred (fun d : Dev nD => owed d 0) c
      ∗ Pipeline.launchCred (fun d : Dev nD => tallyAt (barCell (nb true d)) 0 1) c) ∗ Pipeline.launchCred (fun d : Dev nD => tallyAt (barCell (nb false d)) 0 1) c) := by
    rw [← Pipeline.launchCred_add, ← Pipeline.launchCred_add]; rfl
  rw [e]
  iintro ⟨⟨H1, H2⟩, H3⟩
  ihave H1' := (launch_copies (F := F) c) $$ H1
  ihave H2' := (Pipeline.launchCred_tallyAt (.reg barS) (nb true) (nb false) (nb_nb_not true) (nb_not true) 0 1 c) $$ H2
  ihave H3' := (Pipeline.launchCred_tallyAt (.reg barS) (nb false) (nb true) (nb_nb_not false) (nb_not false) 0 1 c) $$ H3
  isplitl [H2' H3']
  · rw [← tallyAt_add (barCell c) 0 1 1]
    iapply (cred_add _ _).2
    isplitl [H2'] <;> iassumption
  iexact H1'

end Cert.KernelIdeal.Rs

end
-- ==== Proof.KernelIdeal.Launch.lean ====
/-
# The run

The launch of the four kernels, and the run of the whole program: it ends, with every array at the contents the grid
points leave and every semaphore at zero.
-/
module

public import proofs.«01_k».proof.Proof.KernelIdeal.Deal
public import Idealize.ShloMosaic.Lib.Pipeline.CollectiveSegs

@[expose] public section

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf cells tokSet)

/-- What the launch element deals device `c`. -/
def G (c : Dev nD) : sProp 𝕄 :=
  iprop((bigSep Finset.univ fun k : Cid => roundState ER (rs m) (kcell (c, k)) 0)
    ∗ (bigSep Finset.univ fun k : Cid => iprop(atPos ER (kcell (c, k)) 0 ∅ 0 ∗ reached ER (kcell (c, k)) 0)) ∗ ownToks c)

/-- What the global step makes of it. -/
def G' (c : Dev nD) : sProp 𝕄 := iprop(∃ K, ghost m K c)

theorem fund_cells : BI.own (ER (F := F) (initOf cells tokSet)) ⊢ (|==> bigSep Finset.univ (G m) : sProp 𝕄) := by
  have hX (Φ : GSem nD τ sig → sProp 𝕄) : bigSep cells Φ = bigSep Finset.univ fun c : Dev nD => bigSep Finset.univ fun k : Cid => Φ (kcell (c, k)) := by
    unfold cells; rw [bigSep_map, bigSep_univ_prod]; rfl
  have hT : bigSep tokSet (fun x => (dutyTok ER x.1 x.2.1 x.2.2 : sProp 𝕄)) = bigSep Finset.univ fun c : Dev nD => ownToks c := by
    unfold tokSet; rw [bigSep_map, bigSep_univ_prod]
    exact bigSep_congr fun c _ => ownToks_eq c
  iintro HX
  imod (Rounds.fund ER (rs m) cells tokSet) $$ HX with ⟨Hst, Hr, Hat, Htok⟩
  imodintro
  ihave Hst' := (Entails.of_eq (hX fun g => roundState ER (rs m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = iprop(semVal (sCell true 0 c) 0 ∗ semVal (sCell true 1 c) 0 ∗ semVal (sCell true 2 c) 0 ∗ semVal (sCell false 0 c) 0 ∗ semVal (sCell false 1 c) 0 ∗ semVal (sCell false 2 c) 0 ∗ semVal (rCell true 0 c) 0 ∗ semVal (rCell true 1 c) 0 ∗ semVal (rCell true 2 c) 0 ∗ semVal (rCell false 0 c) 0 ∗ semVal (rCell false 1 c) 0 ∗ semVal (rCell false 2 c) 0) := by
  rw [Pipeline.ownSems0_eq_of_list c osem [sIx true 0, sIx true 1, sIx true 2, sIx false 0, sIx false 1, sIx false 2, rIx true 0, rIx true 1, rIx true 2, rIx false 0, rIx false 1, rIx false 2] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Cid => semVal (kcell (c, k)) 0 : sProp 𝕄) := by
  rw [ownSems0_eq, unscopedSems0_eq, bigSep_cid]
  iintro ⟨H, HB⟩
  isplitl [HB]; · iexact HB
  iexact H

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rs m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Cid => semVal (kcell (c, k)) 0) ∗ bigSep Finset.univ fun k : Cid => roundState ER (rs m) (kcell (c, k)) 0)
      ⊢ (|={Set.univ}=> bigSep Finset.univ fun k => iprop(∃ κ : ℕ, cellInv ER (rs m) κ (kcell (c, k))) : sProp 𝕄) from by
        rw [← bigSep_sep']
        exact (bigSep_mono fun k _ => (Rounds.body_intro ER (rs m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def marks : sProp 𝕄 := bigSep Finset.univ fun ck : Dev nD × Cid => reached ER (kcell ck) 0
instance marks_persistent : BI.Persistent (marks (F := F)) := by unfold marks; infer_instance
theorem reached_at (c : Dev nD) (k : Cid) : (marks : sProp 𝕄) ⊢ reached ER (kcell (c, k)) 0 := bigSep_elim (Finset.mem_univ (c, k))

def records (K : Dev nD × Cid → ℕ) : sProp 𝕄 := iprop(invs m K ∗ marks)
instance records_persistent (K : Dev nD × Cid → ℕ) : BI.Persistent (records m K) := by unfold records; infer_instance

/-- What stays with device `c`: its positions, and the tokens of the duties it pays. -/
def linear (c : Dev nD) : sProp 𝕄 := iprop((bigSep Finset.univ fun k : Cid => atPos ER (kcell (c, k)) 0 ∅ 0) ∗ payToks c)

theorem ghost_intro (K : Dev nD × Cid → ℕ) (c : Dev nD) : iprop(records m K ∗ linear c) ⊢ G' m c := by
  unfold records linear payToks G' ghost
  rw [bigSep_cid]
  iintro ⟨⟨#HI, #HR⟩, ⟨HaB, Hast0, Hast1, Hast2, Hasf0, Hasf1, Hasf2, Hart0, Hart1, Hart2, Harf0, Harf1, Harf2⟩, ⟨HtT, HtF⟩, Htst0, Htst1, Htst2, Htsf0, Htsf1, Htsf2, Htrt0, Htrt1, Htrt2, Htrf0, Htrf1, Htrf2⟩
  iexists K
  isplitr; · iexact HI
  isplitl [HaB]; · iexact HaB
  isplitr; · iapply (reached_at (F := F) (nb false c) none); iexact HR
  isplitr; · iapply (reached_at (F := F) (nb true c) none); iexact HR
  isplitl [HtT]; · iexact HtT
  isplitl [HtF]; · iexact HtF
  unfold chans0 chan0
  isplitl [Hast0 Hart0 Htst0 Htrt0 Hast1 Hart1 Htst1 Htrt1 Hast2 Hart2 Htst2 Htrt2]
  · isplitl [Hast0 Hart0 Htst0 Htrt0]
    · isplitl [Hast0]; · iexact Hast0
      isplitl [Hart0]; · iexact Hart0
      isplitr; · iapply (reached_at (F := F) c (some (sIx true 0))); iexact HR
      isplitr; · iapply (reached_at (F := F) c (some (rIx true 0))); iexact HR
      isplitl [Htst0]; · iexact Htst0
      iexact Htrt0
    isplitl [Hast1 Hart1 Htst1 Htrt1]
    · isplitl [Hast1]; · iexact Hast1
      isplitl [Hart1]; · iexact Hart1
      isplitr; · iapply (reached_at (F := F) c (some (sIx true 1))); iexact HR
      isplitr; · iapply (reached_at (F := F) c (some (rIx true 1))); iexact HR
      isplitl [Htst1]; · iexact Htst1
      iexact Htrt1
    isplitl [Hast2]; · iexact Hast2
    isplitl [Hart2]; · iexact Hart2
    isplitr; · iapply (reached_at (F := F) c (some (sIx true 2))); iexact HR
    isplitr; · iapply (reached_at (F := F) c (some (rIx true 2))); iexact HR
    isplitl [Htst2]; · iexact Htst2
    iexact Htrt2
  isplitl [Hasf0 Harf0 Htsf0 Htrf0]
  · isplitl [Hasf0]; · iexact Hasf0
    isplitl [Harf0]; · iexact Harf0
    isplitr; · iapply (reached_at (F := F) c (some (sIx false 0))); iexact HR
    isplitr; · iapply (reached_at (F := F) c (some (rIx false 0))); iexact HR
    isplitl [Htsf0]; · iexact Htsf0
    iexact Htrf0
  isplitl [Hasf1 Harf1 Htsf1 Htrf1]
  · isplitl [Hasf1]; · iexact Hasf1
    isplitl [Harf1]; · iexact Harf1
    isplitr; · iapply (reached_at (F := F) c (some (sIx false 1))); iexact HR
    isplitr; · iapply (reached_at (F := F) c (some (rIx false 1))); iexact HR
    isplitl [Htsf1]; · iexact Htsf1
    iexact Htrf1
  isplitl [Hasf2]; · iexact Hasf2
  isplitl [Harf2]; · iexact Harf2
  isplitr; · iapply (reached_at (F := F) c (some (sIx false 2))); iexact HR
  isplitr; · iapply (reached_at (F := F) c (some (rIx false 2))); iexact HR
  isplitl [Htsf2]; · iexact Htsf2
  iexact Htrf2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rs m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Cid => iprop(∃ κ : ℕ, cellInv ER (rs m) κ (kcell ck))),
    bigSep_congr (s := Finset.univ) (fun (c : Dev nD) _ => bigSep_sep' Finset.univ (fun k : Cid => (atPos ER (kcell (c, k)) 0 ∅ 0 : sProp 𝕄)) (fun k => reached ER (kcell (c, k)) 0)),
    bigSep_sep', ← bigSep_univ_prod (fun ck : Dev nD × Cid => (reached ER (kcell ck) 0 : sProp 𝕄)), toks_around]
  iintro ⟨HI, ⟨Hat, #HR⟩, Htk⟩
  ihave HK := (BI.bigSep_exists_pi Finset.univ (fun (ck : Dev nD × Cid) (κ : ℕ) => (cellInv ER (rs m) κ (kcell ck) : sProp 𝕄))) $$ HI
  icases HK with ⟨%K, #HI⟩
  iapply (bigSep_with_persistent (R := records m K) fun c _ => ghost_intro m K c)
  isplitr
  · unfold records invs marks; isplitl; · iexact HI
    iexact HR
  · unfold linear
    rw [bigSep_sep']
    isplitl [Hat]; · iexact Hat
    iexact Htk

/-- The global step: every device's cells at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  icases Hc with ⟨H1, H2, H3⟩
  imodintro
  unfold start G'
  isplitl
  · isplitl [HG]; · iexact HG
    isplitl [Hlev]; · iexact Hlev
    isplitl [H1]; · iexact H1
    isplitl [H2] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  have e : (dats m ρ 0 c).Φ 0 = phi0 m c := by
    show phi m c 0 = _
    unfold phi; rw [if_pos rfl]
  rw [e, scopedRest0_eq]
  unfold phi0
  iintro ⟨Hs, -, H0, H1, H2, H3⟩
  isplitl [Hs]; · iexact Hs
  isplitl [H0 H2]
  · iapply (bufs_t_intro (F := F) c)
    isplitl [H0] <;> iassumption
  · iapply (bufs_f_intro (F := F) c)
    isplitl [H1] <;> iassumption

theorem phi_exit (c : Dev nD) :
    (dats m ρ 0 c).Φ (Fin.last cfg0.N) ⊢ iprop(unscopedSems0 c ∗ Pipeline.ownSems0 osem c ∗ Pipeline.scopedRest cfg0.spec c) := by
  have e8 : (Fin.last cfg0.N).val = 8 := N_0
  have e : (dats m ρ 0 c).Φ (Fin.last cfg0.N) = phiEnd (F := F) c := by
    show phi m c (Fin.last cfg0.N).val = _
    rw [e8]; unfold phi; rw [if_neg (by decide), if_neg (by decide)]
  rw [e, scopedRest0_eq, ownSems0_eq, unscopedSems0_eq]
  unfold phiEnd zeros
  iintro ⟨HT, HF, ⟨⟨Hzst0, Hzst1, Hzst2⟩, Hzrt0, Hzrt1, Hzrt2⟩, ⟨⟨Hzsf0, Hzsf1, Hzsf2⟩, Hzrf0, Hzrf1, Hzrf2⟩, HzB⟩
  ihave HT' := (bufs_t_elim (F := F) c) $$ HT
  ihave HF' := (bufs_f_elim (F := F) c) $$ HF
  icases HT' with ⟨H0, H2⟩
  icases HF' with ⟨H1, H3⟩
  isplitl [HzB]; · iexact HzB
  isplitr [H0 H1 H2 H3]
  · isplitl [Hzst0]; · iexact Hzst0
    isplitl [Hzst1]; · iexact Hzst1
    isplitl [Hzst2]; · iexact Hzst2
    isplitl [Hzsf0]; · iexact Hzsf0
    isplitl [Hzsf1]; · iexact Hzsf1
    isplitl [Hzsf2]; · iexact Hzsf2
    isplitl [Hzrt0]; · iexact Hzrt0
    isplitl [Hzrt1]; · iexact Hzrt1
    isplitl [Hzrt2]; · iexact Hzrt2
    isplitl [Hzrf0]; · iexact Hzrf0
    isplitl [Hzrf1]; · iexact Hzrf1
    iexact Hzrf2
  isplitl [H0]; · iexact H0
  isplitl [H1]; · iexact H1
  isplitl [H2] <;> iassumption

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      show owedAt c t.val = O₀ c ∨ ∃ j, owedAt c t.val = owed c j
      unfold owedAt
      split
      · exact Or.inl rfl
      · exact Or.inr ⟨_, rfl⟩)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution ends, each array at what the grid points leave and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun c => show owedAt c 0 = O₀ c by unfold owedAt; rw [if_pos rfl]) (howedN := fun c => by
      show owedAt c (Fin.last cfg0.N).val = 0
      rw [show (Fin.last cfg0.N).val = 8 from N_0]; unfold owedAt; rw [if_neg (by decide)]; exact owed_end c)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 3) = m ((c : Thread nD τ).loc main_arg0) := (dats (F := F) m ρ 0 c).arrAt_in (0 : Fin 3) rfl _
theorem finalA_1 (c : Dev nD) : finalA m ρ c (1 : Fin 3) = m ((c : Thread nD τ).loc main_arg1) := (dats (F := F) m ρ 0 c).arrAt_in (1 : Fin 3) rfl _

end Cert.KernelIdeal.Rs

end
-- ==== Proof.KernelIdeal.Blocks.lean ====
/-
# What a block of the result is

At the exact values the narrowing for the ring changes nothing, a partial product is a sum over its own 1024 terms, and
what arrives after three hops and a last addition is the sum of the four devices' products, clamped below at zero.
-/
module

public import proofs.«01_k».proof.Proof.KernelIdeal.Ring
public import Idealize.ShloMosaic.Lib.MatmulPlain
public import Idealize.ShloMosaic.Lib.ValueIdx
public import Idealize.ShloMosaic.Lib.Pipeline.Value

@[expose] public section

noncomputable section

namespace Cert.KernelIdeal.Rs

open Cert.KernelIdeal Cert.KernelIdeal.Gen

open Idealize.ShloMosaic Idealize.ShloMosaic.ValueIdx
open scoped BigOperators

theorem dot_plain : dot_S1024x1024_S1024x512_S1024x512_1_0_0_1_n_n = DotDims.plain 1024 1024 512 := rfl

/-- A partial product at row `i` and column `j`. -/
theorem mm_apply (x : Vec Ideal S1024x1024 .f32) (w : Vec Ideal S1024x512 .f32) (i : Fin 1024) (j : Fin 512) :
    mm x w (ix2 i j) = ∑ k : Fin 1024, x (ix2 i k) * w (ix2 k j) := by
  unfold mm k0_pay6
  rw [shapeCast_self, shapeCast_self, dot_plain]
  refine (Ideal.matmul_plain_apply none x w _ i j).trans ?_
  show Ideal.ofBits .f32 0x00000000#32 + _ = _
  rw [Ideal.ofBits_zero_f32, zero_add]

theorem enc_apply (p : FVec Ideal S1024x512 .f32) (y : S1024x512.Idx) : enc p y = p y := by
  unfold enc; rw [shapeCast_self]; rfl
theorem addTo_apply (r : Vec Ideal S1024x512 .bf16) (p : FVec Ideal S1024x512 .f32) (y : S1024x512.Idx) : addTo r p y = r y + p y := rfl
theorem fin'_apply (r : Vec Ideal S1024x512 .bf16) (p : FVec Ideal S1024x512 .f32) (y : S1024x512.Idx) : fin' r p y = max (r y + p y) 0 := by
  show max (r y + p y) (Ideal.ofBits .f32 0x00000000#32) = _
  rw [Ideal.ofBits_zero_f32]

section Res
variable (xs : Dev nD → S4096x1024.Idx → Elt Ideal .f32) (ws : Dev nD → S1024x1024.Idx → Elt Ideal .f32)

/-- The device whose product is added at stage `s` of the sum that ends on device `c`. -/
def giver (d : Bool) (s : Fin 4) (c : Dev nD) : Dev nD :=
  match s with
  | 0 => nb (!d) (nb (!d) (nb (!d) c))
  | 1 => nb (!d) (nb (!d) c)
  | 2 => nb (!d) c
  | 3 => c

/-- Each of them multiplies the rows that belong to device `c`. -/
theorem ck_giver (d : Bool) (s : Fin 4) (c : Dev nD) : ck d s (giver d s c) = ⟨c.val, c.isLt⟩ := by revert d s c; decide

/-- The four of them are all the devices. -/
theorem sum_giver (d : Bool) (c : Dev nD) (f : Dev nD → EReal) :
    f (giver d 0 c) + f (giver d 1 c) + f (giver d 2 c) + f (giver d 3 c) = ∑ p : Dev nD, f p := by
  have hb : Function.Bijective fun s => giver d s c := by revert d c; decide
  exact (Fin.sum_univ_four fun s => f (giver d s c)).symm.trans (hb.sum_comp f)

/-- A column half of the result on device `c`: row `i`, column `j`. -/
theorem res_apply (d : Bool) (c : Dev nD) (i : Fin 1024) (j : Fin 512) :
    res xs ws d c (ix2 i j)
      = max (∑ p : Dev nD, ∑ k : Fin 1024, chunk (xs p) ⟨c.val, c.isLt⟩ (ix2 i k) * half d (ws p) (ix2 k j)) 0 := by
  have hp : ∀ s, part xs ws d s (giver d s c) (ix2 i j)
      = ∑ k : Fin 1024, chunk (xs (giver d s c)) ⟨c.val, c.isLt⟩ (ix2 i k) * half d (ws (giver d s c)) (ix2 k j) := fun s => by
    unfold part; rw [mm_apply, ck_giver]
  rw [← sum_giver d c fun p => ∑ k : Fin 1024, chunk (xs p) ⟨c.val, c.isLt⟩ (ix2 i k) * half d (ws p) (ix2 k j), ← hp, ← hp, ← hp, ← hp]
  unfold res
  rw [fin'_apply]
  unfold acc; rw [enc_apply, addTo_apply]
  unfold acc; rw [enc_apply, addTo_apply]
  unfold acc; rw [enc_apply]
  rfl

end Res

/-- Row `i` of chunk `k`. -/
theorem chunk_apply (X : S4096x1024.Idx → Elt Ideal .f32) (k : Fin 4) (i j : Fin 1024) :
    chunk X k (ix2 i j) = X (ix2 (⟨k.val * 1024 + i.val, by omega⟩ : Fin 4096) j) := by
  show X _ = X _
  refine congrArg X (funext fun a => Fin.ext ?_)
  match a with
  | ⟨0, _⟩ => show 1024 * k.val + 1 * i.val = k.val * 1024 + i.val; omega
  | ⟨1, _⟩ => show 0 + 1 * j.val = j.val; omega
theorem half_true_apply (W : S1024x1024.Idx → Elt Ideal .f32) (i : Fin 1024) (j : Fin 512) :
    half true W (ix2 i j) = W (ix2 i (⟨j.val, by omega⟩ : Fin 1024)) := by
  show W _ = W _
  refine congrArg W (funext fun a => Fin.ext ?_)
  match a with
  | ⟨0, _⟩ => show 0 + 1 * i.val = i.val; omega
  | ⟨1, _⟩ => show 0 + 1 * j.val = j.val; omega
theorem half_false_apply (W : S1024x1024.Idx → Elt Ideal .f32) (i : Fin 1024) (j : Fin 512) :
    half false W (ix2 i j) = W (ix2 i (⟨512 + j.val, by omega⟩ : Fin 1024)) := by
  show W _ = W _
  refine congrArg W (funext fun a => Fin.ext ?_)
  match a with
  | ⟨0, _⟩ => show 0 + 1 * i.val = i.val; omega
  | ⟨1, _⟩ => show 512 + 1 * j.val = 512 + j.val; omega

end Cert.KernelIdeal.Rs

end
-- ==== Proof.KernelIdeal.Output.lean ====
/-
# What the arrays hold

The block a grid point writes back, and the whole result array of a device after the eight grid points, in terms of the
operands at launch: row `i`, column `j` of device `c` is the sum over the devices of the products along their 1024 inner
positions, clamped below at zero.
-/
module

public import proofs.«01_k».proof.Proof.KernelIdeal.Blocks
public import proofs.«01_k».proof.Proof.KernelIdeal.Launch
public import Idealize.ShloMosaic.Lib.Pipeline.ValueKit.Geometry

@[expose] public section

noncomputable section

namespace Cert.KernelIdeal.Rs

open Cert.KernelIdeal Cert.KernelIdeal.Gen

open Idealize.ShloMosaic Idealize.ShloMosaic.ValueIdx Idealize.ShloMosaic.TcCoe
open scoped BigOperators

variable (m : (ℓ : Loc nD τ sig) → Buf (Elt Ideal) ℓ) (ρ : Dev nD → PrngReg)

/-- Device `p`'s operands. -/
abbrev X (p : Dev nD) : S4096x1024.Idx → EReal := m ((p : Thread nD τ).loc main_arg0)
abbrev W (p : Dev nD) : S1024x8192.Idx → EReal := m ((p : Thread nD τ).loc main_arg1)

/-- Device `c`'s result. -/
def Y (c : Dev nD) : S1024x8192.Idx → EReal := fun y =>
  max (∑ p : Dev nD, ∑ k : Fin 1024,
    X m p (ix2 (⟨c.val * 1024 + (y 0).val, by have := idx2_lt0 y; have : c.val < 4 := c.isLt; omega⟩ : Fin 4096) k) * W m p (ix2 k (y 1))) 0

theorem index_w : ∀ t : Fin cfg0.N, (cfg0.win (1 : Fin 3)).index t = ![0, t.val] := (by decide +kernel : ∀ t : Fin grid0.N, _)
theorem index_y : ∀ t : Fin cfg0.N, (cfg0.win (2 : Fin 3)).index t = ![0, t.val] := (by decide +kernel : ∀ t : Fin grid0.N, _)

theorem xblk_apply (p : Dev nD) (y : S4096x1024.Idx) : xblk m p y = X m p y := by
  show X m p _ = X m p y
  refine congrArg (X m p) (funext fun a => Fin.ext ?_)
  match a with
  | ⟨0, _⟩ => show 0 * 4096 + 1 * (y 0).val = (y 0).val; omega
  | ⟨1, _⟩ => show 0 * 1024 + 1 * (y 1).val = (y 1).val; omega

theorem wblk_apply (t : Fin 8) (p : Dev nD) (i j : Fin 1024) :
    wblk m t.val p (ix2 i j) = W m p (ix2 i (⟨t.val * 1024 + j.val, by omega⟩ : Fin 8192)) := by
  have e := index_w (pt t.val)
  have hv : (pt t.val).val = t.val := Nat.mod_eq_of_lt t.isLt
  show W m p _ = W m p _
  refine congrArg (W m p) (funext fun a => Fin.ext ?_)
  match a with
  | ⟨0, _⟩ =>
    show (cfg0.win (1 : Fin 3)).index (pt t.val) 0 * 1024 + 1 * i.val = _
    rw [e]; show 0 * 1024 + 1 * i.val = i.val; omega
  | ⟨1, _⟩ =>
    show (cfg0.win (1 : Fin 3)).index (pt t.val) 1 * 1024 + 1 * j.val = _
    rw [e]; show (pt t.val).val * 1024 + 1 * j.val = t.val * 1024 + j.val; omega

/-- The block written back at grid point `t`: columns `1024 t` on. -/
theorem outv_apply (t : Fin 8) (c : Dev nD) (i j : Fin 1024) :
    outv m t.val c (ix2 i j) = Y m c (ix2 i (⟨t.val * 1024 + j.val, by omega⟩ : Fin 8192)) := by
  unfold Y outv
  by_cases hj : j.val < 512
  · have hn : ix2 i j ∉ rR.set := fun h => by
      have := (Rect.mem_set_unit.mp h 1).1
      exact absurd (show 512 ≤ j.val from this) (by omega)
    rw [Rect.overlay_of_not_mem _ _ _ hn]
    have ej : ix2 i j = rL.emb (ix2 i (⟨j.val, hj⟩ : Fin 512)) := funext fun a => Fin.ext (by
      match a with
      | ⟨0, _⟩ => show i.val = 0 + 1 * i.val; omega
      | ⟨1, _⟩ => show j.val = 0 + 1 * j.val; omega)
    rw [ej]
    refine (rL.overlay_emb _ _ _).trans ?_
    rw [res_apply]
    refine congrArg (max · 0) (Finset.sum_congr rfl fun p _ => Finset.sum_congr rfl fun k _ => ?_)
    rw [chunk_apply, half_true_apply, xblk_apply, wblk_apply]
  · have hj' : j.val - 512 < 512 := by have := j.isLt; omega
    have ej : ix2 i j = rR.emb (ix2 i (⟨j.val - 512, hj'⟩ : Fin 512)) := funext fun a => Fin.ext (by
      match a with
      | ⟨0, _⟩ => show i.val = 0 + 1 * i.val; omega
      | ⟨1, _⟩ => show j.val = 512 + 1 * (j.val - 512); omega)
    rw [ej]
    refine (rR.overlay_emb _ _ _).trans ?_
    rw [res_apply]
    refine congrArg (max · 0) (Finset.sum_congr rfl fun p _ => Finset.sum_congr rfl fun k _ => ?_)
    rw [chunk_apply, half_false_apply, xblk_apply, wblk_apply]
    refine congrArg (X m p _ * W m p ·) (funext fun a => Fin.ext ?_)
    match a with
    | ⟨0, _⟩ => rfl
    | ⟨1, _⟩ => show t.val * 1024 + (512 + (j.val - 512)) = t.val * 1024 + j.val; omega

/-- The result array after the run. -/
theorem finalA_2 (c : Dev nD) : finalA m ρ c (2 : Fin 3) = Y m c := by
  refine (dats m ρ 0 c).arrAt_eq_of_covers (2 : Fin 3) (Y m c) (by decide +kernel) fun t _ y => ?_
  have ht : t.val < 8 := Nat.lt_of_lt_of_eq t.isLt N_0
  show outv m t.val c y = _
  obtain ⟨i, j, rfl⟩ : ∃ i j : Fin 1024, y = ix2 i j := ⟨y 0, y 1, eq_ix2 y⟩
  refine (outv_apply m ⟨t.val, ht⟩ c i j).trans (congrArg (Y m c) (funext fun a => Fin.ext ?_))
  have e := index_y t
  match a with
  | ⟨0, _⟩ =>
    show i.val = (cfg0.win (2 : Fin 3)).index t 0 * 1024 + 1 * i.val
    rw [e]; show i.val = 0 * 1024 + 1 * i.val; omega
  | ⟨1, _⟩ =>
    show t.val * 1024 + j.val = (cfg0.win (2 : Fin 3)).index t 1 * 1024 + 1 * j.val
    rw [e]; show t.val * 1024 + j.val = t.val * 1024 + 1 * j.val; omega

end Cert.KernelIdeal.Rs

end
-- ==== Proof.ReferenceIdeal.Product.lean ====
/-
# What the reference computes

The whole product at row `i` and column `j` is one sum over 4096 inner positions, clamped below at zero; that sum is the
sum over four stretches of 1024 positions each.
-/
module

public import proofs.«01_k».proof.Proof.Gen.ReferenceIdeal.Run
public import Idealize.ShloMosaic.Lib.StackMember
public import Idealize.ShloMosaic.Lib.Pointwise.Sums

@[expose] public section

noncomputable section

namespace Cert.ReferenceIdeal.Product

open Cert.ReferenceIdeal Cert.ReferenceIdeal.Gen

open Idealize.ShloMosaic hiding ix2
open Idealize.ShloMosaic.ValueIdx Idealize.ShloMosaic.StackMember
open scoped BigOperators

/-- What the reference returns of its two operands. -/
def ref (x : FVec Ideal S4096x4096 .f32) (w : FVec Ideal S4096x8192 .f32) : FVec Ideal S4096x8192 .f32 :=
  maximumf (Host.dotGeneral dot_S4096x4096_S4096x8192_S4096x8192_1_0_0_1_n_n none x w)
    (broadcastInDim S4096x8192 ![] bcast_S_S4096x8192 (constant S_ .f32 0x00000000#32))

theorem dot_plain : dot_S4096x4096_S4096x8192_S4096x8192_1_0_0_1_n_n = DotDims.plain 4096 4096 8192 := rfl

theorem ref_apply (x : FVec Ideal S4096x4096 .f32) (w : FVec Ideal S4096x8192 .f32) (i : Fin 4096) (j : Fin 8192) :
    ref x w (ix2 i j) = max (∑ p : Fin 4, ∑ k : Fin 1024,
      x (ix2 i (⟨p.val * 1024 + k.val, by omega⟩ : Fin 4096)) * w (ix2 (⟨p.val * 1024 + k.val, by omega⟩ : Fin 4096) j)) 0 := by
  show max (Host.dotGeneral dot_S4096x4096_S4096x8192_S4096x8192_1_0_0_1_n_n none x w (ix2 i j)) (Ideal.ofBits .f32 0x00000000#32) = _
  rw [Ideal.ofBits_zero_f32, dot_plain]
  exact congrArg (max · 0) ((dotGeneral_plain_apply none x w i j).trans (Fin.sum_univ_tiles 4 1024 rfl _))

end Cert.ReferenceIdeal.Product

end
-- ==== Proof.KernelIdeal.Equation.lean ====
/-
# The equation

Each device's operands being its blocks of the whole ones, each device's result is its block of rows of the reference's.
-/
module

public import proofs.«01_k».proof.Proof.KernelIdeal.Output
public import proofs.«01_k».proof.Proof.ReferenceIdeal.Product
public import Idealize.ShloMosaic.Lib.Layout

@[expose] public section

noncomputable section

namespace Cert.KernelIdeal.Rs

open Cert.KernelIdeal Cert.KernelIdeal.Gen

open Idealize.ShloMosaic hiding ix2 eq_ix2
open Idealize.ShloMosaic.ValueIdx Idealize.ShloMosaic.TcCoe
open scoped BigOperators

variable (m : (ℓ : Loc nD τ sig) → Buf (Elt Ideal) ℓ)

/-- Device `c`'s result is rows `1024 c` on of what the reference returns. -/
theorem Y_eq (x : FVec Ideal Cert.ReferenceIdeal.S4096x4096 .f32) (w : FVec Ideal Cert.ReferenceIdeal.S4096x8192 .f32)
    (hx : ∀ p : Dev nD, X m p = Layout.block ⟨2, ![4096, 1024]⟩ ⟨2, ![4096, 4096]⟩ 1 4 p x)
    (hw : ∀ p : Dev nD, W m p = Layout.block ⟨2, ![1024, 8192]⟩ ⟨2, ![4096, 8192]⟩ 0 4 p w) (c : Dev nD) :
    Y m c = Layout.block ⟨2, ![1024, 8192]⟩ ⟨2, ![4096, 8192]⟩ 0 4 c (Cert.ReferenceIdeal.Product.ref x w) := by
  funext y
  have hc : c.val < 4 := c.isLt
  obtain ⟨i, j, rfl⟩ : ∃ (i : Fin 1024) (j : Fin 8192), y = ix2 i j := ⟨y 0, y 1, eq_ix2 y⟩
  have e : ∀ h, Layout.block ⟨2, ![1024, 8192]⟩ ⟨2, ![4096, 8192]⟩ 0 4 c (Cert.ReferenceIdeal.Product.ref x w) h (ix2 i j)
      = Cert.ReferenceIdeal.Product.ref x w (ix2 (⟨c.val * 1024 + i.val, by omega⟩ : Fin 4096) j) := fun h =>
    congrArg (Cert.ReferenceIdeal.Product.ref x w) (funext fun a => Fin.ext (by
      match a with
      | ⟨0, _⟩ => rfl
      | ⟨1, _⟩ => rfl))
  rw [e, Cert.ReferenceIdeal.Product.ref_apply]
  unfold Y
  refine congrArg (max · 0) (Finset.sum_congr rfl fun p _ => Finset.sum_congr rfl fun k _ => ?_)
  rw [hx, hw]
  refine congrArg₂ (· * ·) (congrArg x (funext fun a => Fin.ext ?_)) (congrArg w (funext fun a => Fin.ext ?_))
  all_goals
    match a with
    | ⟨0, _⟩ => rfl
    | ⟨1, _⟩ => rfl

end Cert.KernelIdeal.Rs

end
-- ==== Proof.lean ====
module

public import proofs.«01_k».proof.Proof.Gen.ReferenceIdeal.Run
public import proofs.«01_k».proof.Proof.Kernel.Launch
public import proofs.«01_k».proof.Proof.KernelIdeal.Launch
public import proofs.«01_k».proof.Proof.KernelIdeal.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel runs, leaves its operands as they were and every counter at zero. -/
theorem frame_kernel : Cert.quiescent_Kernel := fun m g _ =>
  (θ_run Cert.Kernel.defs _ _).mono (fun _ h => ⟨fun c => ⟨(h.1 c (0 : Fin 3)).trans (Cert.Kernel.Rs.finalA_0 m g c),
    (h.1 c (1 : Fin 3)).trans (Cert.Kernel.Rs.finalA_1 m g c)⟩, h.2⟩) (Cert.Kernel.Rs.run_main (F := Bits) m g)

/-- So does the kernel over the exact values. -/
theorem frame_kernelIdeal : Cert.quiescent_KernelIdeal := fun m g _ =>
  (θ_run Cert.KernelIdeal.defs _ _).mono (fun _ h => ⟨fun c => ⟨(h.1 c (0 : Fin 3)).trans (Cert.KernelIdeal.Rs.finalA_0 m g c),
    (h.1 c (1 : Fin 3)).trans (Cert.KernelIdeal.Rs.finalA_1 m g c)⟩, h.2⟩) (Cert.KernelIdeal.Rs.run_main (F := Ideal) m g)

/-- And the reference, which has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Each device ends with its rows of what the reference ends with. -/
theorem value : Cert.algebraic_KernelIdeal_ReferenceIdeal := fun m g m' g' _ h =>
  ⟨Cert.ReferenceIdeal.Product.ref (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c =>
      ⟨((hr.1 c (2 : Fin 3)).trans (Cert.KernelIdeal.Rs.finalA_2 m g c)).trans
          (Cert.KernelIdeal.Rs.Y_eq m _ _ (fun p => (h p).1) (fun p => (h p).2) c),
        (hr.1 c (0 : Fin 3)).trans (Cert.KernelIdeal.Rs.finalA_0 m g c),
        (hr.1 c (1 : Fin 3)).trans (Cert.KernelIdeal.Rs.finalA_1 m g c)⟩) (Cert.KernelIdeal.Rs.run_main (F := Ideal) m g),
    (θ_run Cert.ReferenceIdeal.defs _ _).mono (fun _ hr => hr 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
